-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384 .f32) (main_arg2 : FVec F S16384 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16384 : Shape := ⟨1, ![16384]⟩
abbrev S32x12288 : Shape := ⟨2, ![32, 12288]⟩
abbrev S8x4096 : Shape := ⟨2, ![8, 4096]⟩
abbrev S12288 : Shape := ⟨1, ![12288]⟩
abbrev S80 : Shape := ⟨1, ![80]⟩
abbrev S_ : Shape := ⟨0, ![]⟩
abbrev S64 : Shape := ⟨1, ![64]⟩
abbrev S16 : Shape := ⟨1, ![16]⟩
abbrev S1 : Shape := ⟨1, ![1]⟩
abbrev S1x16 : Shape := ⟨2, ![1, 16]⟩
abbrev S1x12288 : Shape := ⟨2, ![1, 12288]⟩
abbrev S3x4096 : Shape := ⟨2, ![3, 4096]⟩
abbrev S1024x4096 : Shape := ⟨2, ![1024, 4096]⟩
abbrev S1024 : Shape := ⟨1, ![1024]⟩
abbrev S1x1024 : Shape := ⟨2, ![1, 1024]⟩
abbrev S3x1024 : Shape := ⟨2, ![3, 1024]⟩
abbrev S1x4096 : Shape := ⟨2, ![1, 4096]⟩
abbrev S4096 : Shape := ⟨1, ![4096]⟩
abbrev S1x16384 : Shape := ⟨2, ![1, 16384]⟩
abbrev S1x1 : Shape := ⟨2, ![1, 1]⟩

abbrev nBuf : Table → Nat
  | .hbm => 6
  | .local .tc .vmem => 12
  | .local .tc .smem => 1
  | .local .scVector .vmem => 5
  | _ => 0

abbrev bufTy : (tb : Table) → Fin (nBuf tb) → BufTy
  | .hbm, ⟨0, _⟩ => ⟨S16384x4096, .f32⟩
  | .hbm, ⟨1, _⟩ => ⟨S16384, .f32⟩
  | .hbm, ⟨2, _⟩ => ⟨S16384, .f32⟩
  | .hbm, ⟨3, _⟩ => ⟨S32x12288, .f32⟩
  | .hbm, ⟨4, _⟩ => ⟨S3x4096, .f32⟩
  | .hbm, ⟨5, _⟩ => ⟨S1, .f32⟩
  | .local .tc .vmem, ⟨0, _⟩ => ⟨S1024x4096, .f32⟩
  | .local .tc .vmem, ⟨1, _⟩ => ⟨S1024x4096, .f32⟩
  | .local .tc .vmem, ⟨2, _⟩ => ⟨S1024, .f32⟩
  | .local .tc .vmem, ⟨3, _⟩ => ⟨S1024, .f32⟩
  | .local .tc .vmem, ⟨4, _⟩ => ⟨S1024, .f32⟩
  | .local .tc .vmem, ⟨5, _⟩ => ⟨S1024, .f32⟩
  | .local .tc .vmem, ⟨6, _⟩ => ⟨S3x4096, .f32⟩
  | .local .tc .vmem, ⟨7, _⟩ => ⟨S8x4096, .f32⟩
  | .local .tc .vmem, ⟨8, _⟩ => ⟨S3x4096, .f32⟩
  | .local .tc .vmem, ⟨9, _⟩ => ⟨S32x12288, .f32⟩
  | .local .tc .vmem, ⟨10, _⟩ => ⟨S16384, .f32⟩
  | .local .tc .vmem, ⟨11, _⟩ => ⟨S16384, .f32⟩
  | .local .tc .smem, ⟨0, _⟩ => ⟨S1, .f32⟩
  | .local .scVector .vmem, ⟨0, _⟩ => ⟨S8x4096, .f32⟩
  | .local .scVector .vmem, ⟨1, _⟩ => ⟨S8x4096, .f32⟩
  | .local .scVector .vmem, ⟨2, _⟩ => ⟨S12288, .f32⟩
  | .local .scVector .vmem, ⟨3, _⟩ => ⟨S80, .f32⟩
  | .local .scVector .vmem, ⟨4, _⟩ => ⟨S80, .f32⟩
  | _, _ => ⟨S16384x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c14336_i32 : BitVec 32 := 14336#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c14336_i32 v2
  ![v3.toNat]
@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_off2 (k0_t1 : Fin k0_t1_loop.trips) : Fin 1 → Nat :=
  let c0_i32 : BitVec 32 := 0#32
  let c1_i32 : BitVec 32 := 1#32
  let arg13 : BitVec 32 := Scf.iv c0_i32 c1_i32 k0_t1
  let c16_i32 : BitVec 32 := 16#32
  let v18 : BitVec 32 := Scalar.muli arg13 c16_i32
  let v19 : Index := Scalar.indexCast v18
  ![v19.toNat]
@[reducible] def k0_t2_loop : Scf.Loop 32 :=
  let c0_i32_3 : BitVec 32 := 0#32
  let c768_i32 : BitVec 32 := 768#32
  let v13 : BitVec 32 := Scalar.addi c0_i32_3 c768_i32
  let c1_i32_4 : BitVec 32 := 1#32
  ⟨c0_i32_3, v13, c1_i32_4⟩
def k0_off3 (k0_t2 : Fin k0_t2_loop.trips) : Fin 1 → Nat :=
  let c0_i32_3 : BitVec 32 := 0#32
  let c1_i32_4 : BitVec 32 := 1#32
  let arg13 : BitVec 32 := Scf.iv c0_i32_3 c1_i32_4 k0_t2
  let c16_i32 : BitVec 32 := 16#32
  let v18 : BitVec 32 := Scalar.muli arg13 c16_i32
  let v19 : Index := Scalar.indexCast v18
  ![v19.toNat]
def k0_off4 (i : grid0.Coords) : Fin 2 → Nat :=
  let c14336_i32 : BitVec 32 := 14336#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c14336_i32 v2
  let c0_i32_6 : BitVec 32 := 0#32
  let v14 : BitVec 32 := Scalar.addi v3 c0_i32_6
  let c0_i32_7 : BitVec 32 := 0#32
  ![v14.toNat, 0]
@[reducible] def k0_t3_loop : Scf.Loop 32 :=
  let c0_i32_9 : BitVec 32 := 0#32
  let c4_i32_10 : BitVec 32 := 4#32
  let v17 : BitVec 32 := Scalar.addi c0_i32_9 c4_i32_10
  let c1_i32_11 : BitVec 32 := 1#32
  ⟨c0_i32_9, v17, c1_i32_11⟩
def k0_off5 (i : grid0.Coords) (k0_t3 : Fin k0_t3_loop.trips) : Fin 2 → Nat :=
  let c14336_i32 : BitVec 32 := 14336#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c14336_i32 v2
  let c2_i32_13 : BitVec 32 := 2#32
  let c0_i32_9 : BitVec 32 := 0#32
  let c1_i32_11 : BitVec 32 := 1#32
  let arg13 : BitVec 32 := Scf.iv c0_i32_9 c1_i32_11 k0_t3
  let v18 : BitVec 32 := Scalar.muli c2_i32_13 arg13
  let c1_i32_14 : BitVec 32 := 1#32
  let v19 : BitVec 32 := Scalar.addi v18 c1_i32_14
  let c8_i32 : BitVec 32 := 8#32
  let v20 : BitVec 32 := Scalar.muli v19 c8_i32
  let v21 : BitVec 32 := Scalar.addi v3 v20
  let c0_i32_15 : BitVec 32 := 0#32
  ![v21.toNat, 0]
def k0_off6 (i : grid0.Coords) (k0_t3 : Fin k0_t3_loop.trips) : Fin 2 → Nat :=
  let c14336_i32 : BitVec 32 := 14336#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c14336_i32 v2
  let c2_i32_17 : BitVec 32 := 2#32
  let c0_i32_9 : BitVec 32 := 0#32
  let c1_i32_11 : BitVec 32 := 1#32
  let arg13 : BitVec 32 := Scf.iv c0_i32_9 c1_i32_11 k0_t3
  let v24 : BitVec 32 := Scalar.muli c2_i32_17 arg13
  let c8_i32_18 : BitVec 32 := 8#32
  let v25 : BitVec 32 := Scalar.muli v24 c8_i32_18
  let v26 : BitVec 32 := Scalar.addi v3 v25
  let c0_i32_19 : BitVec 32 := 0#32
  ![v26.toNat, 0]
def k0_off7 (k0_t3 : Fin k0_t3_loop.trips) : Fin 1 → Nat :=
  let c2_i32_21 : BitVec 32 := 2#32
  let c0_i32_9 : BitVec 32 := 0#32
  let c1_i32_11 : BitVec 32 := 1#32
  let arg13 : BitVec 32 := Scf.iv c0_i32_9 c1_i32_11 k0_t3
  let v29 : BitVec 32 := Scalar.muli c2_i32_21 arg13
  let c8_i32_22 : BitVec 32 := 8#32
  let v30 : BitVec 32 := Scalar.muli v29 c8_i32_22
  let v31 : Index := Scalar.indexCast v30
  ![v31.toNat]
@[reducible] def k0_t4_loop : Scf.Loop 32 :=
  let c0_i32_24 : BitVec 32 := 0#32
  let c32_i32 : BitVec 32 := 32#32
  let v38 : BitVec 32 := Scalar.addi c0_i32_24 c32_i32
  let c1_i32_25 : BitVec 32 := 1#32
  ⟨c0_i32_24, v38, c1_i32_25⟩
def k0_off8 (k0_t4 : Fin k0_t4_loop.trips) (c0_i32_41 : BitVec 32) : Fin 1 → Nat :=
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v60 : BitVec 32 := Scalar.addi v59 c0_i32_41
  let v61 : Index := Scalar.indexCast v60
  ![v61.toNat]
def k0_off9 (k0_t4 : Fin k0_t4_loop.trips) (c4096_i32 : BitVec 32) (c0_i32_44 : BitVec 32) : Fin 1 → Nat :=
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v92 : BitVec 32 := Scalar.addi c4096_i32 v59
  let v93 : BitVec 32 := Scalar.addi v92 c0_i32_44
  let v94 : Index := Scalar.indexCast v93
  ![v94.toNat]
def k0_off10 (k0_t4 : Fin k0_t4_loop.trips) (c0_i32_74 : BitVec 32) : Fin 2 → Nat :=
  let c0_i32_75 : BitVec 32 := 0#32
  let v179 : Index := Scalar.indexCast c0_i32_75
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v178 : BitVec 32 := Scalar.addi v59 c0_i32_74
  let v180 : Index := Scalar.indexCast v178
  ![0, v180.toNat]
def k0_off11 (k0_t4 : Fin k0_t4_loop.trips) (c0_i32_90 : BitVec 32) : Fin 2 → Nat :=
  let c1_i32_91 : BitVec 32 := 1#32
  let v265 : Index := Scalar.indexCast c1_i32_91
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v264 : BitVec 32 := Scalar.addi v59 c0_i32_90
  let v266 : Index := Scalar.indexCast v264
  ![1, v266.toNat]
def k0_off12 (k0_t4 : Fin k0_t4_loop.trips) (c0_i32_106 : BitVec 32) : Fin 2 → Nat :=
  let c2_i32_107 : BitVec 32 := 2#32
  let v351 : Index := Scalar.indexCast c2_i32_107
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v350 : BitVec 32 := Scalar.addi v59 c0_i32_106
  let v352 : Index := Scalar.indexCast v350
  ![2, v352.toNat]
def k0_off13 (k0_t4 : Fin k0_t4_loop.trips) (c0_i32_122 : BitVec 32) : Fin 2 → Nat :=
  let c3_i32_123 : BitVec 32 := 3#32
  let v437 : Index := Scalar.indexCast c3_i32_123
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v436 : BitVec 32 := Scalar.addi v59 c0_i32_122
  let v438 : Index := Scalar.indexCast v436
  ![3, v438.toNat]
def k0_off14 (k0_t4 : Fin k0_t4_loop.trips) (c0_i32_138 : BitVec 32) : Fin 2 → Nat :=
  let c4_i32_139 : BitVec 32 := 4#32
  let v523 : Index := Scalar.indexCast c4_i32_139
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v522 : BitVec 32 := Scalar.addi v59 c0_i32_138
  let v524 : Index := Scalar.indexCast v522
  ![4, v524.toNat]
def k0_off15 (k0_t4 : Fin k0_t4_loop.trips) (c0_i32_154 : BitVec 32) : Fin 2 → Nat :=
  let c5_i32 : BitVec 32 := 5#32
  let v609 : Index := Scalar.indexCast c5_i32
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v608 : BitVec 32 := Scalar.addi v59 c0_i32_154
  let v610 : Index := Scalar.indexCast v608
  ![5, v610.toNat]
def k0_off16 (k0_t4 : Fin k0_t4_loop.trips) (c0_i32_169 : BitVec 32) : Fin 2 → Nat :=
  let c6_i32 : BitVec 32 := 6#32
  let v695 : Index := Scalar.indexCast c6_i32
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v694 : BitVec 32 := Scalar.addi v59 c0_i32_169
  let v696 : Index := Scalar.indexCast v694
  ![6, v696.toNat]
def k0_off17 (k0_t4 : Fin k0_t4_loop.trips) (c0_i32_184 : BitVec 32) : Fin 2 → Nat :=
  let c7_i32 : BitVec 32 := 7#32
  let v781 : Index := Scalar.indexCast c7_i32
  let c0_i32_24 : BitVec 32 := 0#32
  let c1_i32_25 : BitVec 32 := 1#32
  let arg14 : BitVec 32 := Scf.iv c0_i32_24 c1_i32_25 k0_t4
  let c128_i32 : BitVec 32 := 128#32
  let v59 : BitVec 32 := Scalar.muli arg14 c128_i32
  let v780 : BitVec 32 := Scalar.addi v59 c0_i32_184
  let v782 : Index := Scalar.indexCast v780
  ![7, v782.toNat]
def k0_cond1 (k0_t3 : Fin k0_t3_loop.trips) : BitVec 1 :=
  let c0_i32_9 : BitVec 32 := 0#32
  let c1_i32_11 : BitVec 32 := 1#32
  let arg13 : BitVec 32 := Scf.iv c0_i32_9 c1_i32_11 k0_t3
  let c3_i32 : BitVec 32 := 3#32
  let v39 : BitVec 1 := Scalar.cmpi .slt arg13 c3_i32
  let v40 : BitVec 32 := Scalar.extui v39
  let c0_i32_27 : BitVec 32 := 0#32
  let v41 : BitVec 1 := Scalar.cmpi .ne v40 c0_i32_27
  v41

def k0_off18 (i : grid0.Coords) (k0_t3 : Fin k0_t3_loop.trips) : Fin 2 → Nat :=
  let c14336_i32 : BitVec 32 := 14336#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi c14336_i32 v2
  let c2_i32_41 : BitVec 32 := 2#32
  let c0_i32_9 : BitVec 32 := 0#32
  let c1_i32_11 : BitVec 32 := 1#32
  let arg13 : BitVec 32 := Scf.iv c0_i32_9 c1_i32_11 k0_t3
  let v59 : BitVec 32 := Scalar.muli c2_i32_41 arg13
  let c2_i32_42 : BitVec 32 := 2#32
  let v60 : BitVec 32 := Scalar.addi v59 c2_i32_42
  let c8_i32_43 : BitVec 32 := 8#32
  let v61 : BitVec 32 := Scalar.muli v60 c8_i32_43
  let v62 : BitVec 32 := Scalar.addi v3 v61
  let c0_i32_44 : BitVec 32 := 0#32
  ![v62.toNat, 0]
def k0_off19 (k0_t3 : Fin k0_t3_loop.trips) : Fin 1 → Nat :=
  let c2_i32_33 : BitVec 32 := 2#32
  let c0_i32_9 : BitVec 32 := 0#32
  let c1_i32_11 : BitVec 32 := 1#32
  let arg13 : BitVec 32 := Scf.iv c0_i32_9 c1_i32_11 k0_t3
  let v48 : BitVec 32 := Scalar.muli c2_i32_33 arg13
  let c1_i32_34 : BitVec 32 := 1#32
  let v49 : BitVec 32 := Scalar.addi v48 c1_i32_34
  let c8_i32_35 : BitVec 32 := 8#32
  let v50 : BitVec 32 := Scalar.muli v49 c8_i32_35
  let v51 : Index := Scalar.indexCast v50
  ![v51.toNat]
@[reducible] def k0_t5_loop : Scf.Loop 32 :=
  let c0_i32_37 : BitVec 32 := 0#32
  let c32_i32_38 : BitVec 32 := 32#32
  let v58 : BitVec 32 := Scalar.addi c0_i32_37 c32_i32_38
  let c1_i32_39 : BitVec 32 := 1#32
  ⟨c0_i32_37, v58, c1_i32_39⟩
def k0_off20 (k0_t5 : Fin k0_t5_loop.trips) (c0_i32_41 : BitVec 32) : Fin 1 → Nat :=
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v60 : BitVec 32 := Scalar.addi v59 c0_i32_41
  let v61 : Index := Scalar.indexCast v60
  ![v61.toNat]
def k0_off21 (k0_t5 : Fin k0_t5_loop.trips) (c4096_i32 : BitVec 32) (c0_i32_44 : BitVec 32) : Fin 1 → Nat :=
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v92 : BitVec 32 := Scalar.addi c4096_i32 v59
  let v93 : BitVec 32 := Scalar.addi v92 c0_i32_44
  let v94 : Index := Scalar.indexCast v93
  ![v94.toNat]
def k0_off22 (k0_t5 : Fin k0_t5_loop.trips) (c0_i32_74 : BitVec 32) : Fin 2 → Nat :=
  let c0_i32_75 : BitVec 32 := 0#32
  let v179 : Index := Scalar.indexCast c0_i32_75
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v178 : BitVec 32 := Scalar.addi v59 c0_i32_74
  let v180 : Index := Scalar.indexCast v178
  ![0, v180.toNat]
def k0_off23 (k0_t5 : Fin k0_t5_loop.trips) (c0_i32_90 : BitVec 32) : Fin 2 → Nat :=
  let c1_i32_91 : BitVec 32 := 1#32
  let v265 : Index := Scalar.indexCast c1_i32_91
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v264 : BitVec 32 := Scalar.addi v59 c0_i32_90
  let v266 : Index := Scalar.indexCast v264
  ![1, v266.toNat]
def k0_off24 (k0_t5 : Fin k0_t5_loop.trips) (c0_i32_106 : BitVec 32) : Fin 2 → Nat :=
  let c2_i32_107 : BitVec 32 := 2#32
  let v351 : Index := Scalar.indexCast c2_i32_107
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v350 : BitVec 32 := Scalar.addi v59 c0_i32_106
  let v352 : Index := Scalar.indexCast v350
  ![2, v352.toNat]
def k0_off25 (k0_t5 : Fin k0_t5_loop.trips) (c0_i32_122 : BitVec 32) : Fin 2 → Nat :=
  let c3_i32_123 : BitVec 32 := 3#32
  let v437 : Index := Scalar.indexCast c3_i32_123
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v436 : BitVec 32 := Scalar.addi v59 c0_i32_122
  let v438 : Index := Scalar.indexCast v436
  ![3, v438.toNat]
def k0_off26 (k0_t5 : Fin k0_t5_loop.trips) (c0_i32_138 : BitVec 32) : Fin 2 → Nat :=
  let c4_i32_139 : BitVec 32 := 4#32
  let v523 : Index := Scalar.indexCast c4_i32_139
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v522 : BitVec 32 := Scalar.addi v59 c0_i32_138
  let v524 : Index := Scalar.indexCast v522
  ![4, v524.toNat]
def k0_off27 (k0_t5 : Fin k0_t5_loop.trips) (c0_i32_154 : BitVec 32) : Fin 2 → Nat :=
  let c5_i32 : BitVec 32 := 5#32
  let v609 : Index := Scalar.indexCast c5_i32
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v608 : BitVec 32 := Scalar.addi v59 c0_i32_154
  let v610 : Index := Scalar.indexCast v608
  ![5, v610.toNat]
def k0_off28 (k0_t5 : Fin k0_t5_loop.trips) (c0_i32_169 : BitVec 32) : Fin 2 → Nat :=
  let c6_i32 : BitVec 32 := 6#32
  let v695 : Index := Scalar.indexCast c6_i32
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v694 : BitVec 32 := Scalar.addi v59 c0_i32_169
  let v696 : Index := Scalar.indexCast v694
  ![6, v696.toNat]
def k0_off29 (k0_t5 : Fin k0_t5_loop.trips) (c0_i32_184 : BitVec 32) : Fin 2 → Nat :=
  let c7_i32 : BitVec 32 := 7#32
  let v781 : Index := Scalar.indexCast c7_i32
  let c0_i32_37 : BitVec 32 := 0#32
  let c1_i32_39 : BitVec 32 := 1#32
  let arg14 : BitVec 32 := Scf.iv c0_i32_37 c1_i32_39 k0_t5
  let c128_i32 : BitVec 32 := 128#32
  let v59 : BitVec 32 := Scalar.muli arg14 c128_i32
  let v780 : BitVec 32 := Scalar.addi v59 c0_i32_184
  let v782 : Index := Scalar.indexCast v780
  ![7, v782.toNat]
def k0_off30 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r2 : BitVec 32 := 0#32
  ![v1.toNat, 0]
abbrev grid1 : Pipeline.Grid := ⟨1, ![14], ![false]⟩

def k1_cond2 (i : grid1.Coords) : BitVec 1 :=
  let arg0 : BitVec 32 := BitVec.ofNat 32 (i 0).val
  let c13_i32 : BitVec 32 := 13#32
  let v25 : BitVec 1 := Scalar.cmpi .eq arg0 c13_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S3x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x12288 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S4096 : Shape := ⟨1, ![4096]⟩
abbrev S1 : Shape := ⟨1, ![1]⟩

abbrev nBuf : Space → Nat
  | .hbm => 106
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S16384, .f32⟩
  | .hbm, ⟨5, _⟩ => ⟨S16384, .i1⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .i1⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S16384x1, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S16384x1, .f32⟩
  | .hbm, ⟨51, _⟩ => ⟨S16384x4096, .f32⟩
  | .hbm, ⟨52, _⟩ => ⟨S16384x4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S4096, .f32⟩
  | .hbm, ⟨77, _⟩ => ⟨S_, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1, .f32⟩
  | .hbm, ⟨92, _⟩ => ⟨S_, .f32⟩
  | .hbm, ⟨93, _⟩ => ⟨S1, .f32⟩
  | .hbm, ⟨94, _⟩ => ⟨S1, .f32⟩
  | .hbm, ⟨95, _⟩ => ⟨S1, .f32⟩
  | .hbm, ⟨96, _⟩ => ⟨S1, .f32⟩
  | .hbm, ⟨97, _⟩ => ⟨S_, .f32⟩
  | .hbm, ⟨98, _⟩ => ⟨S1, .f32⟩
  | .hbm, ⟨99, _⟩ => ⟨S1, .f32⟩
  | .hbm, ⟨100, _⟩ => ⟨S1, .f32⟩
  | .hbm, ⟨101, _⟩ => ⟨S1, .f32⟩
  | .hbm, ⟨102, _⟩ => ⟨S_, .f32⟩
  | .hbm, ⟨103, _⟩ => ⟨S1, .f32⟩
  | .hbm, ⟨104, _⟩ => ⟨S1, .f32⟩
  | .hbm, ⟨105, _⟩ => ⟨S1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_17 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_18 : Ref sig .tc := ⟨.hbm, 77, rfl⟩
abbrev main_v55 : Ref sig .tc := ⟨.hbm, 78, rfl⟩
abbrev main_v56 : Ref sig .tc := ⟨.hbm, 79, rfl⟩
abbrev main_cst_19 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_20 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_21 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_22 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_23 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_24 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]
-- ==== Proof.Setup.lean ====
/-
  What the modules of this proof share: the program as the launch theorem sees it, the resource algebra, and the
  arrays by name.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two staged regions' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staged regions' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof.Loss
-- ==== Proof.Values.lean ====
/-
  What the SparseCore kernel leaves in its accumulator, as functions of what it reads, over any float values: one block of
  eight rows added to the three running columns sums (all rows, the rows with `y ≥ 0`, the rows with `y_pred ≥ 0`).
-/
module

public import proofs.«01_k».proof.Proof.Setup
public import Idealize.ShloMosaic.Lib.ValueLayout

@[expose] public section

noncomputable section

namespace Cert.Proof.Loss

open Cert.KernelIdeal Cert.KernelIdeal.Gen
open Idealize.ShloMosaic Idealize.ShloMosaic.ValueIdx Idealize.SL.Sem

variable {F : FTy → Type} [FloatOps F]

/-- Eight numbers added to `a`, one after the other. -/
def rows8 (a : F .f32) (x : Fin 8 → F .f32) : F .f32 :=
  FloatOps.addf (FloatOps.addf (FloatOps.addf (FloatOps.addf (FloatOps.addf (FloatOps.addf (FloatOps.addf (FloatOps.addf a (x 0)) (x 1)) (x 2)) (x 3)) (x 4)) (x 5)) (x 6)) (x 7)

theorem rows8_congr {a a' y0 y1 y2 y3 y4 y5 y6 y7 : F .f32} {x : Fin 8 → F .f32} (ha : a' = a) (h0 : y0 = x 0) (h1 : y1 = x 1) (h2 : y2 = x 2)
    (h3 : y3 = x 3) (h4 : y4 = x 4) (h5 : y5 = x 5) (h6 : y6 = x 6) (h7 : y7 = x 7) :
    FloatOps.addf (FloatOps.addf (FloatOps.addf (FloatOps.addf (FloatOps.addf (FloatOps.addf (FloatOps.addf (FloatOps.addf a' y0) y1) y2) y3) y4) y5) y6) y7 = rows8 a x := by
  rw [ha, h0, h1, h2, h3, h4, h5, h6, h7]; rfl

/-- Row `r` of a block at column `n` (the three sums lie one after the other: `n` counts modulo the 4096 columns). -/
def col (B : S8x4096.Idx → F .f32) (r : Fin 8) (n : ℕ) : F .f32 := B (ix2 r ⟨n % 4096, Nat.mod_lt _ (by decide)⟩)
/-- The weight of row `r`. -/
def lane (w : S16.Idx → F .f32) (r : Fin 8) : F .f32 := w (ix1 ⟨r.val, by have := r.isLt; show r.val < 16; omega⟩)

/-- One block added to the accumulator `f`. -/
def accAt (B : S8x4096.Idx → F .f32) (w1 w2 : S16.Idx → F .f32) (f : S12288.Idx → F .f32) (k : S12288.Idx) : F .f32 :=
  if (k 0).val < 4096 then rows8 (f k) fun r => col B r (k 0).val
  else if (k 0).val < 8192 then rows8 (f k) fun r => FloatOps.mulf (col B r (k 0).val) (lane w1 r)
  else rows8 (f k) fun r => FloatOps.mulf (col B r (k 0).val) (lane w2 r)

/-- One block added in the columns from `lo` up to `hi` of each of the three sums. -/
def accBetween (lo hi : ℕ) (B : S8x4096.Idx → F .f32) (w1 w2 : S16.Idx → F .f32) (f : S12288.Idx → F .f32) (k : S12288.Idx) : F .f32 :=
  if lo ≤ (k 0).val % 4096 ∧ (k 0).val % 4096 < hi then accAt B w1 w2 f k else f k

theorem accBetween_step (t : ℕ) (B : S8x4096.Idx → F .f32) (w1 w2 : S16.Idx → F .f32) (f : S12288.Idx → F .f32) :
    accBetween (128 * t) (128 * t + 128) B w1 w2 (accBetween 0 (128 * t) B w1 w2 f) = accBetween 0 (128 * (t + 1)) B w1 w2 f := by
  funext k
  unfold accBetween accAt
  by_cases h1 : 128 * t ≤ (k 0).val % 4096
  · have e : ¬ (k 0).val % 4096 < 128 * t := by omega
    simp only [h1, e, true_and, Nat.zero_le, and_false, if_false, Nat.mul_add, Nat.mul_one]
  · have e : (k 0).val % 4096 < 128 * t := by omega
    have e' : (k 0).val % 4096 < 128 * (t + 1) := by omega
    simp only [h1, e, e', false_and, Nat.zero_le, and_true, if_true, if_false]

theorem accBetween_zero (B : S8x4096.Idx → F .f32) (w1 w2 : S16.Idx → F .f32) (f : S12288.Idx → F .f32) : accBetween 0 (128 * 0) B w1 w2 f = f := by
  funext k; unfold accBetween; rw [if_neg (by omega)]
theorem accBetween_all (B : S8x4096.Idx → F .f32) (w1 w2 : S16.Idx → F .f32) (f : S12288.Idx → F .f32) : accBetween 0 (128 * 32) B w1 w2 f = accAt B w1 w2 f := by
  funext k; unfold accBetween; rw [if_pos ⟨Nat.zero_le _, by omega⟩]

/-! ## Reading a lane of what the kernel loads -/

theorem lane_load {sig' : RefSig} {κ' : Kind} {sp' : Space} (v : View sig' κ' sp' S12288 .f32) (f : v.ty.Contents (Elt F)) {off : Fin 1 → ℕ} [C : ClosedOff off]
    {inb : ∀ a, off a + S16.size a ≤ S12288.size a} {h : S16.ShapeCasts S16} (x : S16.Idx) (k : S12288.Idx) (hk : (k 0).val = C.form 0 + (x 0).val) :
    shapeCast S16 (v.readAt (Elt F) (Rect.unit (s := S12288) off S16.size inb).toLoadRect f) h x = v.read (Elt F) f k := by
  refine (congrFun (shapeCast_self (s := S16) _ h) x).trans (congrArg (v.read (Elt F) f) ?_)
  funext a
  match a with
  | 0 => exact Fin.ext (by show off 0 + 1 * (x 0).val = (k 0).val; have e0 := congrFun C.eq 0; omega)

theorem lane_row {sig' : RefSig} {κ' : Kind} {sp' : Space} (v : View sig' κ' sp' S8x4096 .f32) (b : v.ty.Contents (Elt F)) {off : Fin 2 → ℕ} [C : ClosedOff off]
    {inb : ∀ a, off a + S1x16.size a ≤ S8x4096.size a} {h : S1x16.ShapeCasts S16} (x : S16.Idx) (r : Fin 8) (n : ℕ)
    (h0 : C.form 0 = r.val) (h1 : C.form 1 + (x 0).val = n % 4096) :
    shapeCast S16 (v.readAt (Elt F) (Rect.unit (s := S8x4096) off S1x16.size inb).toLoadRect b) h x = col (v.read (Elt F) b) r n := by
  have hx : x = ix1 (x 0) := by funext a; match a with | 0 => rfl
  rw [hx]
  refine (shapeCast_1a_a_apply (a := 16) _ h (x 0)).trans (congrArg (v.read (Elt F) b) ?_)
  funext a
  match a with
  | 0 => exact Fin.ext (by show off 0 + 1 * 0 = r.val; have e0 := congrFun C.eq 0; omega)
  | 1 => exact Fin.ext (by show off 1 + 1 * (x 0).val = n % 4096; have e0 := congrFun C.eq 1; omega)

theorem lane_bcast (w : S16.Idx → F .f32) (r : Fin 8) {off : Fin 1 → ℕ} {h : S16.Slices off S1} {hp} (x : S16.Idx) (h0 : off 0 = r.val) :
    broadcast S16 (extractAt ![0] (extractStridedSlice S1 off w h) hp) x = lane w r := by
  refine congrArg w ?_
  funext a
  match a with
  | 0 => exact Fin.ext (by show off 0 + 0 = r.val; omega)

end Cert.Proof.Loss
-- ==== Proof.Group.lean ====
module
public import proofs.«01_k».proof.Proof.Values
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

abbrev cT (L : grid0.Coords) : Fin τ.nSC := (L 0).castLE hcore0
abbrev sT (L : grid0.Coords) : Fin τ.nSub := (L 1).castLE hsub0

def groupProg (L : grid0.Coords) (buf : Memref sig .scVector .vmem S8x4096 .f32) (hbuf : buf.IsWhole) (c0_i32_24 c1_i32_25 : BitVec 32) (v33 v37 : FVec F S16 .f32)
    (k0_t4 : Fin k0_t4_loop.trips) :
    Prog (TpuEff nD τ sig (Elt F) Λ₀ (.scVector ((L 0).castLE hcore0) ((L 1).castLE hsub0))) PUnit := do
  let ⟨v59, v63, v67, v71, v75, v79, v83, v87, v91, v96, v101, v102, c32_i32_48⟩ ← k0_part1 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 c0_i32_24 c1_i32_25 k0_t4
  let ⟨v106, v111, v116, v121, v126, v131, v136, v141, v146⟩ ← k0_part2 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v102 c32_i32_48
  let ⟨v151, v156, v161, v166, v171, v174, v177, v183, v185, v187, v192⟩ ← k0_part3 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 v37 k0_t4 v59 v63 v96 v136
  let ⟨v193, v195, v197, v203, v205, v207, v213, v215, v217, v223, v225, v227, v233, v235, v237, v242⟩ ← k0_part4 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v67 v71 v75 v79 v83 v101 v106 v111 v116 v121 v141 v146 v151 v156 v161 v174 v177 v192
  let ⟨v243, v245, v247, v253, v255, v257, v260, v263, v269, v271, v273, v279, v281, v283, v289, v291, v293, c48_i32_96⟩ ← k0_part5 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 v37 k0_t4 v59 v87 v91 v126 v131 v166 v171 v174 v177 v183 v185 v187 v193 v195 v197 v203 v205 v207 v242
  let ⟨v299, v301, v303, v309, v311, v313, v319, v321, v323, v329, v331, v333, v339, v341, v343, v344⟩ ← k0_part6 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 k0_t4 v59 v213 v215 v217 v223 v225 v227 v233 v235 v237 v243 v245 v247 v253 v255 v257 v260 v263 c48_i32_96
  let ⟨v346, v349, v355, v357, v359, v365, v367, v369, v375, v377, v379, v385, v387, v389, v394⟩ ← k0_part7 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v37 k0_t4 v59 v269 v271 v273 v279 v281 v283 v289 v291 v293 v299 v301 v303 v344
  let ⟨v395, v397, v399, v405, v407, v409, v415, v417, v419, v425, v427, v429, v432, v435, v441, v443, v445, c16_i32_124⟩ ← k0_part8 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 v37 k0_t4 v59 v309 v311 v313 v319 v321 v323 v329 v331 v333 v339 v341 v343 v346 v349 v355 v357 v359 v394
  let ⟨v451, v453, v455, v461, v463, v465, v471, v473, v475, v481, v483, v485, v491, v493, v495, c96_i32_134⟩ ← k0_part9 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v365 v367 v369 v375 v377 v379 v385 v387 v389 v395 v397 v399 v405 v407 v409 v432 v435 c16_i32_124
  let ⟨v501, v503, v505, v511, v513, v515, v518, v521, v527, v529, v531, v537, v539, v541, v546⟩ ← k0_part10 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 v37 k0_t4 v59 v415 v417 v419 v425 v427 v429 v432 v435 v441 v443 v445 v451 v453 v455 c96_i32_134
  let ⟨v547, v549, v551, v557, v559, v561, v567, v569, v571, v577, v579, v581, v587, v589, v591, v596⟩ ← k0_part11 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v461 v463 v465 v471 v473 v475 v481 v483 v485 v491 v493 v495 v501 v503 v505 v518 v521 v546
  let ⟨v597, v599, v601, v604, v607, v613, v615, v617, v623, v625, v627, v633, v635, v637, v643, v645, v647, c64_i32_161⟩ ← k0_part12 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 v37 k0_t4 v59 v511 v513 v515 v518 v521 v527 v529 v531 v537 v539 v541 v547 v549 v551 v557 v559 v561 v596
  let ⟨v653, v655, v657, v663, v665, v667, v673, v675, v677, v683, v685, v687, v690, v693, v698⟩ ← k0_part13 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 v37 k0_t4 v59 v567 v569 v571 v577 v579 v581 v587 v589 v591 v597 v599 v601 v604 v607 c64_i32_161
  let ⟨v699, v701, v703, v709, v711, v713, v719, v721, v723, v729, v731, v733, v739, v741, v743, v748⟩ ← k0_part14 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v613 v615 v617 v623 v625 v627 v633 v635 v637 v643 v645 v647 v653 v655 v657 v690 v693 v698
  let ⟨v749, v751, v753, v759, v761, v763, v769, v771, v773, v776, v779, v785, v787, v789, v795, v797, v799, c32_i32_187⟩ ← k0_part15 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 v33 v37 k0_t4 v59 v663 v665 v667 v673 v675 v677 v683 v685 v687 v690 v693 v699 v701 v703 v709 v711 v713 v748
  let ⟨v805, v807, v809, v815, v817, v819, v825, v827, v829, v835, v837, v839, v845, v847, v849, c112_i32_197⟩ ← k0_part16 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v719 v721 v723 v729 v731 v733 v739 v741 v743 v749 v751 v753 v759 v761 v763 v776 v779 c32_i32_187
  let ⟨v855, v857, v859, v893⟩ ← k0_part17 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v769 v771 v773 v776 v779 v785 v787 v789 v795 v797 v799 c112_i32_197
  let v933 : BitVec 32 ← k0_part18 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v805 v807 v809 v815 v817 v819 v825 v893
  let ⟨v973, c96_i32_233⟩ ← k0_part19 L pV (Memref.isWhole_whole _) yV (Memref.isWhole_whole _) zV (Memref.isWhole_whole _) oV (Memref.isWhole_whole _) buf hbuf buf hbuf aV (Memref.isWhole_whole _) uV (Memref.isWhole_whole _) vV (Memref.isWhole_whole _) cc0_scratch5 cc0_scratch6 cc0_scoped0 cc0_scoped1 cc0_scoped2 k0_t4 v59 v827 v829 v835 v837 v839 v845 v847 v933
  let v974 : BitVec 32 := Scalar.addi v973 c96_i32_233
  let v975 : Index := Scalar.indexCast v974
  let v976 : Vec F S16 .f32 ← Prog.lift (.load aV (Rect.unit (s := S12288) (k0_off9 k0_t4 8192#32 96#32) S16.size (k0_off9_inb k0_t4 1 6)).toLoadRect (View.loadsAt_vmem h_S16))
  have v977 : FVec F S16 .f32 := shapeCast S16 v976 shapeCasts_S16_S16
  have v978 : FVec F S16 .f32 := shapeCast S16 v849 shapeCasts_S16_S16
  Prog.lift (.store aV (Rect.unit (s := S12288) (k0_off9 k0_t4 8192#32 96#32) S16.size (k0_off9_inb k0_t4 1 6)) v978 Finset.univ (View.stores_vmem_bits_univ h_S16 rfl) (.inl rfl))
  let c112_i32_234 : BitVec 32 := 112#32
  let v979 : BitVec 32 := Scalar.addi v59 c112_i32_234
  let v980 : Index := Scalar.indexCast v979
  let v981 : Vec F S16 .f32 ← Prog.lift (.load aV (Rect.unit (s := S12288) (k0_off8 k0_t4 112#32) S16.size (k0_off8_inb k0_t4 7)).toLoadRect (View.loadsAt_vmem h_S16))
  have v982 : FVec F S16 .f32 := shapeCast S16 v981 shapeCasts_S16_S16
  have v983 : FVec F S16 .f32 := shapeCast S16 v855 shapeCasts_S16_S16
  Prog.lift (.store aV (Rect.unit (s := S12288) (k0_off8 k0_t4 112#32) S16.size (k0_off8_inb k0_t4 7)) v983 Finset.univ (View.stores_vmem_bits_univ h_S16 rfl) (.inl rfl))
  let c4096_i32_235 : BitVec 32 := 4096#32
  let v984 : BitVec 32 := Scalar.addi c4096_i32_235 v59
  let c112_i32_236 : BitVec 32 := 112#32
  let v985 : BitVec 32 := Scalar.addi v984 c112_i32_236
  let v986 : Index := Scalar.indexCast v985
  let v987 : Vec F S16 .f32 ← Prog.lift (.load aV (Rect.unit (s := S12288) (k0_off9 k0_t4 4096#32 112#32) S16.size (k0_off9_inb k0_t4 0 7)).toLoadRect (View.loadsAt_vmem h_S16))
  have v988 : FVec F S16 .f32 := shapeCast S16 v987 shapeCasts_S16_S16
  have v989 : FVec F S16 .f32 := shapeCast S16 v857 shapeCasts_S16_S16
  Prog.lift (.store aV (Rect.unit (s := S12288) (k0_off9 k0_t4 4096#32 112#32) S16.size (k0_off9_inb k0_t4 0 7)) v989 Finset.univ (View.stores_vmem_bits_univ h_S16 rfl) (.inl rfl))
  let c8192_i32_237 : BitVec 32 := 8192#32
  let v990 : BitVec 32 := Scalar.addi c8192_i32_237 v59
  let c112_i32_238 : BitVec 32 := 112#32
  let v991 : BitVec 32 := Scalar.addi v990 c112_i32_238
  let v992 : Index := Scalar.indexCast v991
  let v993 : Vec F S16 .f32 ← Prog.lift (.load aV (Rect.unit (s := S12288) (k0_off9 k0_t4 8192#32 112#32) S16.size (k0_off9_inb k0_t4 1 7)).toLoadRect (View.loadsAt_vmem h_S16))
  have v994 : FVec F S16 .f32 := shapeCast S16 v993 shapeCasts_S16_S16
  have v995 : FVec F S16 .f32 := shapeCast S16 v859 shapeCasts_S16_S16
  Prog.lift (.store aV (Rect.unit (s := S12288) (k0_off9 k0_t4 8192#32 112#32) S16.size (k0_off9_inb k0_t4 1 7)) v995 Finset.univ (View.stores_vmem_bits_univ h_S16 rfl) (.inl rfl))
  pure ⟨⟩

/-- A piece the trip writes in each of the three sums agrees with one block's sums. -/
theorem piece_all (lo hi : ℕ) (B : S8x4096.Idx → F .f32) (w1 w2 : S16.Idx → F .f32) (f : S12288.Idx → F .f32) {off : Fin 1 → ℕ} [C : ClosedOff off] {inb : ∀ a, off a + S16.size a ≤ S12288.size a}
    (P : S16.Idx → F .f32) (h4 : C.form 0 + 16 ≤ 4096) (hlo : lo ≤ C.form 0 % 4096) (hhi : C.form 0 % 4096 + 16 ≤ hi)
    (hP : ∀ (x : S16.Idx) (k : S12288.Idx), (k 0).val = C.form 0 + (x 0).val → P x = rows8 (f k) fun r => col B r (k 0).val) (x : S16.Idx) :
    P x = accBetween lo hi B w1 w2 f ((Rect.unit (s := S12288) off S16.size inb).emb x) := by
  have hk : (((Rect.unit (s := S12288) off S16.size inb).emb x) 0).val = C.form 0 + (x 0).val := by
    show off 0 + 1 * (x 0).val = _; have e0 := congrFun C.eq 0; omega
  have hx : (x 0).val < 16 := (x 0).isLt
  rw [hP x _ hk]; unfold accBetween accAt
  rw [if_pos ⟨by omega, by omega⟩, if_pos (by omega)]
theorem piece_pos (lo hi : ℕ) (B : S8x4096.Idx → F .f32) (w1 w2 : S16.Idx → F .f32) (f : S12288.Idx → F .f32) {off : Fin 1 → ℕ} [C : ClosedOff off] {inb : ∀ a, off a + S16.size a ≤ S12288.size a}
    (P : S16.Idx → F .f32) (h4 : 4096 ≤ C.form 0) (h8 : C.form 0 + 16 ≤ 8192) (hlo : lo ≤ C.form 0 % 4096) (hhi : C.form 0 % 4096 + 16 ≤ hi)
    (hP : ∀ (x : S16.Idx) (k : S12288.Idx), (k 0).val = C.form 0 + (x 0).val → P x = rows8 (f k) fun r => FloatOps.mulf (col B r (k 0).val) (lane w1 r)) (x : S16.Idx) :
    P x = accBetween lo hi B w1 w2 f ((Rect.unit (s := S12288) off S16.size inb).emb x) := by
  have hk : (((Rect.unit (s := S12288) off S16.size inb).emb x) 0).val = C.form 0 + (x 0).val := by
    show off 0 + 1 * (x 0).val = _; have e0 := congrFun C.eq 0; omega
  have hx : (x 0).val < 16 := (x 0).isLt
  rw [hP x _ hk]; unfold accBetween accAt
  rw [if_pos ⟨by omega, by omega⟩, if_neg (by omega), if_pos (by omega)]
theorem piece_pp (lo hi : ℕ) (B : S8x4096.Idx → F .f32) (w1 w2 : S16.Idx → F .f32) (f : S12288.Idx → F .f32) {off : Fin 1 → ℕ} [C : ClosedOff off] {inb : ∀ a, off a + S16.size a ≤ S12288.size a}
    (P : S16.Idx → F .f32) (h8 : 8192 ≤ C.form 0) (h12 : C.form 0 + 16 ≤ 12288) (hlo : lo ≤ C.form 0 % 4096) (hhi : C.form 0 % 4096 + 16 ≤ hi)
    (hP : ∀ (x : S16.Idx) (k : S12288.Idx), (k 0).val = C.form 0 + (x 0).val → P x = rows8 (f k) fun r => FloatOps.mulf (col B r (k 0).val) (lane w2 r)) (x : S16.Idx) :
    P x = accBetween lo hi B w1 w2 f ((Rect.unit (s := S12288) off S16.size inb).emb x) := by
  have hk : (((Rect.unit (s := S12288) off S16.size inb).emb x) 0).val = C.form 0 + (x 0).val := by
    show off 0 + 1 * (x 0).val = _; have e0 := congrFun C.eq 0; omega
  have hx : (x 0).val < 16 := (x 0).isLt
  rw [hP x _ hk]; unfold accBetween accAt
  rw [if_pos ⟨by omega, by omega⟩, if_neg (by omega), if_neg (by omega)]

theorem inb_of {off : Fin 1 → ℕ} [C : ClosedOff off] (h : C.form 0 + 16 ≤ 12288) (a : Fin 1) : off a + S16.size a ≤ S12288.size a := by
  have e0 := congrFun C.eq 0
  match a with
  | 0 => show off 0 + 16 ≤ 12288; omega
theorem mem_piece {off : Fin 1 → ℕ} [C : ClosedOff off] {inb : ∀ a, off a + S16.size a ≤ S12288.size a} (y : S12288.Idx)
    (h : C.form 0 ≤ (y 0).val ∧ (y 0).val < C.form 0 + 16) : y ∈ (Rect.unit (s := S12288) off S16.size inb).set :=
  Rect.mem_set_unit.2 fun a => by
    have e0 := congrFun C.eq 0
    match a with
    | 0 => exact ⟨by omega, by show (y 0).val < off 0 + 16; omega⟩
theorem of_mem_piece {off : Fin 1 → ℕ} [C : ClosedOff off] {inb : ∀ a, off a + S16.size a ≤ S12288.size a} (y : S12288.Idx)
    (h : y ∈ (Rect.unit (s := S12288) off S16.size inb).set) : C.form 0 ≤ (y 0).val ∧ (y 0).val < C.form 0 + 16 := by
  have e0 := congrFun C.eq 0
  have h0 : off 0 ≤ (y 0).val ∧ (y 0).val < off 0 + 16 := Rect.mem_set_unit.1 h 0
  omega
theorem no_cover {α : Type} {P : α → Prop} {l : List α} (h : ¬ ∃ p ∈ l, P p) : ∀ p ∈ l, ¬ P p := fun p hp hP => h ⟨p, hp, hP⟩

set_option maxHeartbeats 4000000 in
theorem group_run (d : Dev nD) (L : grid0.Coords) (buf : Memref sig .scVector .vmem S8x4096 .f32) (hbuf : buf.IsWhole) (c0 c1 : BitVec 32)
    (w1 w2 : FVec F S16 .f32) (t : Fin k0_t4_loop.trips)
    (f : Buf (Elt F) ((aV).view.loc (V d (cT L) (sT L)))) (b : Buf (Elt F) (buf.view.loc (V d (cT L) (sT L)))) :
    iprop(((aV).view.loc (V d (cT L) (sT L)) ↦{fullShare} f) ∗ (buf.view.loc (V d (cT L) (sT L)) ↦[buf.view.set]{fullShare} b) : sProp 𝕄)
      ⊢ wp frame (wpE (defs₀ (F := F)) 𝒱₀ (V d (cT L) (sT L)) none) Set.univ (groupProg L buf hbuf c0 c1 w1 w2 t)
        fun _ => iprop(((aV).view.loc (V d (cT L) (sT L)) ↦{fullShare} accBetween (128 * t.val) (128 * t.val + 128) (buf.view.read (Elt F) b) w1 w2 f)
          ∗ (buf.view.loc (V d (cT L) (sT L)) ↦[buf.view.set]{fullShare} b)) := by
  have ht : t.val < 32 := by have := t.isLt; exact Nat.lt_of_lt_of_le this k0_t4_abs.2.1
  iintro ⟨Ha, Hb⟩
  unfold groupProg
  sl_exec_parts
  sl_step
  isplitl [Ha]
  · refine Entails.of_eq (congrArg (fun g => iprop((aV).view.loc (V d (cT L) (sT L)) ↦{fullShare} g)) ?_)
    funext y
    refine (congrFun (View.read_whole (Val := Elt F) cc0_scratch2 _) y).symm.trans ?_
    sl_unfold_run_names
    by_cases hy : 128 * t.val ≤ (y 0).val % 4096 ∧ (y 0).val % 4096 < 128 * t.val + 128
    · refine View.read_writes_apply_of_pieces (aV).view f (accBetween (128 * t.val) (128 * t.val + 128) (buf.view.read (Elt F) b) w1 w2 f) _ ?_ y ?_
      · repeat' (first | exact List.forall_mem_nil _ | refine List.forall_mem_cons.2 ⟨?_, ?_⟩)
        rotate_left 2
        all_goals first
          | refine piece_all (inb := inb_of (by simp only [ClosedOff.form, Matrix.cons_val_zero]; omega)) (128 * t.val) (128 * t.val + 128) _ w1 w2 f _ (by simp only [ClosedOff.form, Matrix.cons_val_zero]; omega) (by simp only [ClosedOff.form, Matrix.cons_val_zero]; omega) (by simp only [ClosedOff.form, Matrix.cons_val_zero]; omega) (fun x k hk => ?_)
            simp only [ClosedOff.form, Matrix.cons_val_zero] at hk
            have hx : (x 0).val < 16 := (x 0).isLt
            refine rows8_congr (lane_load _ _ _ _ (by simp only [ClosedOff.form, Matrix.cons_val_zero, Shape.reshapeEquiv_self]; omega))
              (lane_row _ _ _ 0 _ rfl ?_)
              (lane_row _ _ _ 1 _ rfl ?_)
              (lane_row _ _ _ 2 _ rfl ?_)
              (lane_row _ _ _ 3 _ rfl ?_)
              (lane_row _ _ _ 4 _ rfl ?_)
              (lane_row _ _ _ 5 _ rfl ?_)
              (lane_row _ _ _ 6 _ rfl ?_)
              (lane_row _ _ _ 7 _ rfl ?_)
            all_goals simp only [ClosedOff.form, Matrix.cons_val_one, Matrix.cons_val_zero, Matrix.head_cons, Shape.reshapeEquiv_self]; omega
          | refine piece_pos (inb := inb_of (by simp only [ClosedOff.form, Matrix.cons_val_zero]; omega)) (128 * t.val) (128 * t.val + 128) _ w1 w2 f _ (by simp only [ClosedOff.form, Matrix.cons_val_zero]; omega) (by simp only [ClosedOff.form, Matrix.cons_val_zero]; omega) (by simp only [ClosedOff.form, Matrix.cons_val_zero]; omega) (by simp only [ClosedOff.form, Matrix.cons_val_zero]; omega) (fun x k hk => ?_)
            simp only [ClosedOff.form, Matrix.cons_val_zero] at hk
            have hx : (x 0).val < 16 := (x 0).isLt
            refine rows8_congr (lane_load _ _ _ _ (by simp only [ClosedOff.form, Matrix.cons_val_zero, Shape.reshapeEquiv_self]; omega))
              (congrArg₂ FloatOps.mulf (lane_row _ _ _ 0 _ rfl ?_) (lane_bcast w1 0 x (h := slices_S16_o0_S1) (hp := inpos_S1_p0) rfl))
              (congrArg₂ FloatOps.mulf (lane_row _ _ _ 1 _ rfl ?_) (lane_bcast w1 1 x (h := slices_S16_o1_S1) (hp := inpos_S1_p0) rfl))
              (congrArg₂ FloatOps.mulf (lane_row _ _ _ 2 _ rfl ?_) (lane_bcast w1 2 x (h := slices_S16_o2_S1) (hp := inpos_S1_p0) rfl))
              (congrArg₂ FloatOps.mulf (lane_row _ _ _ 3 _ rfl ?_) (lane_bcast w1 3 x (h := slices_S16_o3_S1) (hp := inpos_S1_p0) rfl))
              (congrArg₂ FloatOps.mulf (lane_row _ _ _ 4 _ rfl ?_) (lane_bcast w1 4 x (h := slices_S16_o4_S1) (hp := inpos_S1_p0) rfl))
              (congrArg₂ FloatOps.mulf (lane_row _ _ _ 5 _ rfl ?_) (lane_bcast w1 5 x (h := slices_S16_o5_S1) (hp := inpos_S1_p0) rfl))
              (congrArg₂ FloatOps.mulf (lane_row _ _ _ 6 _ rfl ?_) (lane_bcast w1 6 x (h := slices_S16_o6_S1) (hp := inpos_S1_p0) rfl))
              (congrArg₂ FloatOps.mulf (lane_row _ _ _ 7 _ rfl ?_) (lane_bcast w1 7 x (h := slices_S16_o7_S1) (hp := inpos_S1_p0) rfl))
            all_goals simp only [ClosedOff.form, Matrix.cons_val_one, Matrix.cons_val_zero, Matrix.head_cons, Shape.reshapeEquiv_self]; omega
          | refine piece_pp (inb := inb_of (by simp only [ClosedOff.form, Matrix.cons_val_zero]; omega)) (128 * t.val) (128 * t.val + 128) _ w1 w2 f _ (by simp only [ClosedOff.form, Matrix.cons_val_zero]; omega) (by simp only [ClosedOff.form, Matrix.cons_val_zero]; omega) (by simp only [ClosedOff.form, Matrix.cons_val_zero]; omega) (by simp only [ClosedOff.form, Matrix.cons_val_zero]; omega) (fun x k hk => ?_)
            simp only [ClosedOff.form, Matrix.cons_val_zero] at hk
            have hx : (x 0).val < 16 := (x 0).isLt
            refine rows8_congr (lane_load _ _ _ _ (by simp only [ClosedOff.form, Matrix.cons_val_zero, Shape.reshapeEquiv_self]; omega))
              (congrArg₂ FloatOps.mulf (lane_row _ _ _ 0 _ rfl ?_) (lane_bcast w2 0 x (h := slices_S16_o0_S1) (hp := inpos_S1_p0) rfl))
              (congrArg₂ FloatOps.mulf (lane_row _ _ _ 1 _ rfl ?_) (lane_bcast w2 1 x (h := slices_S16_o1_S1) (hp := inpos_S1_p0) rfl))
              (congrArg₂ FloatOps.mulf (lane_row _ _ _ 2 _ rfl ?_) (lane_bcast w2 2 x (h := slices_S16_o2_S1) (hp := inpos_S1_p0) rfl))
              (congrArg₂ FloatOps.mulf (lane_row _ _ _ 3 _ rfl ?_) (lane_bcast w2 3 x (h := slices_S16_o3_S1) (hp := inpos_S1_p0) rfl))
              (congrArg₂ FloatOps.mulf (lane_row _ _ _ 4 _ rfl ?_) (lane_bcast w2 4 x (h := slices_S16_o4_S1) (hp := inpos_S1_p0) rfl))
              (congrArg₂ FloatOps.mulf (lane_row _ _ _ 5 _ rfl ?_) (lane_bcast w2 5 x (h := slices_S16_o5_S1) (hp := inpos_S1_p0) rfl))
              (congrArg₂ FloatOps.mulf (lane_row _ _ _ 6 _ rfl ?_) (lane_bcast w2 6 x (h := slices_S16_o6_S1) (hp := inpos_S1_p0) rfl))
              (congrArg₂ FloatOps.mulf (lane_row _ _ _ 7 _ rfl ?_) (lane_bcast w2 7 x (h := slices_S16_o7_S1) (hp := inpos_S1_p0) rfl))
            all_goals simp only [ClosedOff.form, Matrix.cons_val_one, Matrix.cons_val_zero, Matrix.head_cons, Shape.reshapeEquiv_self]; omega
      · have hy' : (y 0).val < 12288 := (y 0).isLt
        obtain ⟨kk, hkk, q, hq, hlo, hhi⟩ : ∃ kk, kk < 8 ∧ ∃ q, q < 3 ∧ 4096 * q + 128 * t.val + 16 * kk ≤ (y 0).val ∧ (y 0).val < 4096 * q + 128 * t.val + 16 * kk + 16 :=
          ⟨((y 0).val % 4096 - 128 * t.val) / 16, by omega, (y 0).val / 4096, by omega, by omega, by omega⟩
        by_contra hc
        have hall := no_cover hc
        repeat
          obtain ⟨hn, hall⟩ := List.forall_mem_cons.1 hall
          have hn : ¬ _ := fun h => hn (mem_piece (inb := inb_of (by simp only [ClosedOff.form, Matrix.cons_val_zero]; omega)) y h)
          simp only [ClosedOff.form, Matrix.cons_val_zero] at hn
        clear hall hc
        interval_cases q <;> omega
    · refine (View.read_writes_apply_of_forall_not_mem (aV).view f y _ ?_).trans (if_neg hy).symm
      repeat' (first | exact List.forall_mem_nil _ | refine List.forall_mem_cons.2 ⟨?_, ?_⟩)
      all_goals exact fun hm => absurd (of_mem_piece (inb := inb_of (by simp only [ClosedOff.form, Matrix.cons_val_zero]; omega)) y hm) (by simp only [ClosedOff.form, Matrix.cons_val_zero]; omega)
  · iexact Hb

end Cert.Proof.Loss
-- ==== Proof.Masks.lean ====
module
public import proofs.«01_k».proof.Proof.Group
public import Idealize.ShloMosaic.Lib.WritesUnit
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

/-- A row's weight: one where the label (or the score) is not below zero, else zero. -/
def msk (x : F .f32) : F .f32 := Scalar.select (FloatOps.cmpf .oge x (Scalar.ofBits .f32 0x00000000#32)) (Scalar.ofBits .f32 0x3F800000#32) (Scalar.ofBits .f32 0x00000000#32)

/-- The first row of the tile's part of the table. -/
abbrev baseOf (L : grid0.Coords) : ℕ := 128 * (L 1).val + 64 * (L 0).val + 14336
theorem base_lt (L : grid0.Coords) (k : ℕ) (hk : k < 64) : baseOf L + k < 16384 := by
  have h0 : (L 0).val < 2 := (L 0).isLt
  have h1 : (L 1).val < 16 := (L 1).isLt
  unfold baseOf; omega

/-- The weights of the tile's 64 rows, and sixteen zeros. -/
def wts (y : S16384.Idx → F .f32) (L : grid0.Coords) : S80.Idx → F .f32 := fun k =>
  if h : (k 0).val < 64 then msk (y (ix1 ⟨baseOf L + (k 0).val, base_lt L _ h⟩)) else Scalar.ofBits .f32 0x00000000#32

/-- The weights after the first `n` rows: the later ones still as copied in. -/
def wtsTo (n : ℕ) (y : S16384.Idx → F .f32) (L : grid0.Coords) (g : S80.Idx → F .f32) : Prop :=
  ∀ (k : S80.Idx) (h : (k 0).val < 64), g k = if (k 0).val < n then msk (y (ix1 ⟨baseOf L + (k 0).val, base_lt L _ h⟩)) else y (ix1 ⟨baseOf L + (k 0).val, base_lt L _ h⟩)

abbrev thr (d : Dev nD) (L : grid0.Coords) : Thread nD τ := V d (cT L) (sT L)

def maskInv (d : Dev nD) (L : grid0.Coords) (y z : S16384.Idx → F .f32) (k : ℕ) (_ : PUnit) : sProp 𝕄 :=
  iprop((∃ g, ⌜wtsTo (16 * k) y L g⌝ ∗ (uV).view.loc (thr d L) ↦{fullShare} g)
    ∗ (∃ g, ⌜wtsTo (16 * k) z L g⌝ ∗ (vV).view.loc (thr d L) ↦{fullShare} g))

theorem lane_load80 {sig' : RefSig} {κ' : Kind} {sp' : Space} (v : View sig' κ' sp' S80 .f32) (f : v.ty.Contents (Elt F)) {off : Fin 1 → ℕ} {n : ℕ} (ho : off = ![n])
    {inb : ∀ a, off a + S16.size a ≤ S80.size a} {h : S16.ShapeCasts S16} (x : S16.Idx) (k : S80.Idx) (hk : (k 0).val = n + (x 0).val) :
    shapeCast S16 (v.readAt (Elt F) (Rect.unit (s := S80) off S16.size inb).toLoadRect f) h x = v.read (Elt F) f k := by
  subst ho
  refine (congrFun (shapeCast_self (s := S16) _ h) x).trans (congrArg (v.read (Elt F) f) ?_)
  funext a
  match a with
  | 0 => exact Fin.ext (by show n + 1 * (x 0).val = (k 0).val; omega)

/-- One group of sixteen weights computed. -/
theorem wts_step {sig' : RefSig} {κ' : Kind} {sp' : Space} (v : View sig' κ' sp' S80 .f32) (g : v.ty.Contents (Elt F)) (y : S16384.Idx → F .f32) (L : grid0.Coords)
    {off : Fin 1 → ℕ} {n : ℕ} (ho : off = ![n]) {inb : ∀ a, off a + S16.size a ≤ S80.size a} (hn : n + 16 ≤ 64) (P : S16.Idx → F .f32)
    (hg : wtsTo n y L (v.read (Elt F) g)) (hP : ∀ (x : S16.Idx) (k : S80.Idx), (k 0).val = n + (x 0).val → P x = msk (v.read (Elt F) g k)) :
    wtsTo (n + 16) y L (v.read (Elt F) (v.writes (Elt F) g [⟨Rect.unit (s := S80) off S16.size inb, P⟩])) := by
  intro k hk
  have h := hg k hk
  by_cases hin : n ≤ (k 0).val ∧ (k 0).val < n + 16
  · have e := View.read_writes_cons_unit_of_mem v g inb P [] k (ix1 (⟨(k 0).val - n, by omega⟩ : Fin 16)) ho (fun a => by
      match a with
      | 0 => show (k 0).val = n + ((k 0).val - n); omega)
    rw [e, if_pos (by omega), hP _ k (by show (k 0).val = n + ((k 0).val - n); omega), h, if_neg (by omega)]
  · have e := View.read_writes_cons_unit_of_not_mem v g inb P [] k ho 0 (by
      show (k 0).val < n ∨ n + 16 ≤ (k 0).val; omega)
    rw [e]
    refine h.trans ?_
    by_cases hlt : (k 0).val < n
    · rw [if_pos hlt, if_pos (by omega)]
    · rw [if_neg hlt, if_neg (by omega)]

/-- The copied rows, no weight computed yet. -/
theorem wts_start {sig' : RefSig} {κ' : Kind} {sp' : Space} (v : View sig' κ' sp' S80 .f32) (g : v.ty.Contents (Elt F)) (y : S16384.Idx → F .f32) (L : grid0.Coords)
    {inb : ∀ a, (![0] : Fin 1 → ℕ) a + S64.size a ≤ S80.size a} (P : S64.Idx → F .f32)
    (hP : ∀ x : S64.Idx, P x = y (ix1 ⟨baseOf L + (x 0).val, base_lt L _ (x 0).isLt⟩)) :
    wtsTo 0 y L (v.read (Elt F) (v.writes (Elt F) g [⟨Rect.unit (s := S80) ![0] S64.size inb, P⟩])) := by
  intro k hk
  have e := View.read_writes_cons_unit_of_mem v g inb P [] k (ix1 (⟨(k 0).val, hk⟩ : Fin 64)) rfl (fun a => by
      match a with
      | 0 => show (k 0).val = 0 + (k 0).val; omega)
  rw [e, if_neg (by omega), hP]

/-- All the weights, once the last sixteen are zeros. -/
theorem wts_end {sig' : RefSig} {κ' : Kind} {sp' : Space} (v : View sig' κ' sp' S80 .f32) (g : v.ty.Contents (Elt F)) (y : S16384.Idx → F .f32) (L : grid0.Coords)
    {inb : ∀ a, (![64] : Fin 1 → ℕ) a + S16.size a ≤ S80.size a} (P : S16.Idx → F .f32)
    (hg : wtsTo 64 y L (v.read (Elt F) g)) (hP : ∀ x, P x = Scalar.ofBits .f32 0x00000000#32) :
    v.read (Elt F) (v.writes (Elt F) g [⟨Rect.unit (s := S80) ![64] S16.size inb, P⟩]) = wts y L := by
  funext k
  unfold wts
  by_cases hk : (k 0).val < 64
  · rw [dif_pos hk, View.read_writes_cons_unit_of_not_mem v g inb P [] k rfl 0 (Or.inl hk)]
    exact (hg k hk).trans (if_pos hk)
  · have h80 : (k 0).val < 80 := (k 0).isLt
    rw [dif_neg hk, View.read_writes_cons_unit_of_mem v g inb P [] k (ix1 (⟨(k 0).val - 64, by omega⟩ : Fin 16)) rfl (fun a => by
      match a with
      | 0 => show (k 0).val = 64 + ((k 0).val - 64); omega), hP]

theorem slice_rows (y : S16384.Idx → F .f32) (L : grid0.Coords) (x : S64.Idx) :
    ((yV).slice (Rect.unit (s := S16384) (k0_off1 L) S64.size (k0_off1_inb L)) (fun _ => rfl)).view.read (Elt F) y x = y (ix1 ⟨baseOf L + (x 0).val, base_lt L _ (x 0).isLt⟩) := by
  refine congrArg y ?_
  funext a
  match a with
  | 0 =>
    have e := congrFun (k0_off1_eq L) 0
    refine Fin.ext ?_
    show k0_off1 L 0 + 1 * (x 0).val = baseOf L + (x 0).val
    rw [e]; show 128 * (L 1).val + 64 * (L 0).val + 14336 + 1 * (x 0).val = _; unfold baseOf; omega

theorem part40_run (d : Dev nD) (L : grid0.Coords) (qy qz : PosShare TreeShare) (y z : S16384.Idx → F .f32) (O : CellTallies nD τ sig (HIx 1)) (W : Waits sig (HIx 1)) (hO : ∀ g, O g none = 0)
    (fu : Buf (Elt F) ((uV).view.loc (thr d L))) (fv : Buf (Elt F) ((vV).view.loc (thr d L))) :
    iprop((Transfers.MayWaits (thr d L) (none : HIx 1) O : sProp 𝕄)
        ∗ ((yV).view.loc (thr d L) ↦{qy} y) ∗ ((zV).view.loc (thr d L) ↦{qz} z)
        ∗ ((uV).view.loc (thr d L) ↦{fullShare} fu) ∗ ((vV).view.loc (thr d L) ↦{fullShare} fv)
        ∗ semVal (thr d L, SemLoc.dma cc0_scoped0.sem) 0 ∗ semVal (thr d L, SemLoc.dma cc0_scoped1.sem) 0
        ∗ owes (thr d L) O W)
      ⊢ wp frame (wpE (defs₀ (F := F)) 𝒱₀ (thr d L) none) Set.univ
          (k0_part40 L pV (Memref.isWhole_whole _) yV (Memref.isWhole_whole _) zV (Memref.isWhole_whole _) oV (Memref.isWhole_whole _)
            bV (Memref.isWhole_whole _) cV (Memref.isWhole_whole _) aV (Memref.isWhole_whole _) uV (Memref.isWhole_whole _) vV (Memref.isWhole_whole _)
            cc0_scratch5 cc0_scratch6 cc0_scoped0 cc0_scoped1 cc0_scoped2)
          fun r => iprop(⌜r.2.1 = broadcast S16 (Scalar.ofBits .f32 0x00000000#32)⌝
            ∗ ((yV).view.loc (thr d L) ↦{qy} y) ∗ ((zV).view.loc (thr d L) ↦{qz} z)
            ∗ ((uV).view.loc (thr d L) ↦{fullShare} wts y L) ∗ ((vV).view.loc (thr d L) ↦{fullShare} wts z L)
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  iintro ⟨Hmw, Hy, Hz, Hu, Hv, Hs0, Hs1, HO⟩
  unfold k0_part40
  sl_exec (disch := exact View.amount_pos _ _ (show 0 < S64.numel by decide))
  sl_for (maskInv d L y z) $$ [Hu Hv]
  case region =>
    intro k _
    unfold maskInv
    iintro ⟨⟨%g, %hg, Hu⟩, ⟨%g', %hg', Hv⟩⟩
    sl_exec
    sl_step
    have hk : k.val < 4 := Nat.lt_of_lt_of_le k.isLt k0_t1_abs.2.1
    isplitl [Hu]
    · iexists _; isplitr; swap
      · iexact Hu
      · ipureintro
        refine wts_step (uV).view g y L (k0_off2_eq k) (by omega) _ hg (fun x k' hk' => ?_)
        sl_unfold_run_names
        exact (congrFun (shapeCast_self (s := S16) _ _) x).trans (congrArg msk (lane_load80 (uV).view g (k0_off2_eq k) x k' hk'))
    · iexists _; isplitr; swap
      · iexact Hv
      · ipureintro
        refine wts_step (vV).view g' z L (k0_off2_eq k) (by omega) _ hg' (fun x k' hk' => ?_)
        sl_unfold_run_names
        exact (congrFun (shapeCast_self (s := S16) _ _) x).trans (congrArg msk (lane_load80 (vV).view g' (k0_off2_eq k) x k' hk'))
  · unfold maskInv
    isplitl [Hu]
    · iexists _; isplitr; swap
      · iexact Hu
      · ipureintro
        refine wts_start (uV).view fu y L _ (fun x => ?_)
        sl_unfold_run_names
        exact slice_rows y L x
    · iexists _; isplitr; swap
      · iexact Hv
      · ipureintro
        refine wts_start (vV).view fv z L _ (fun x => ?_)
        sl_unfold_run_names
        exact slice_rows z L x
  iintro %_ HI
  unfold maskInv
  icases HI with ⟨⟨%g, %hg, Hu⟩, ⟨%g', %hg', Hv⟩⟩
  have ht : Scf.trips k0_t1_loop.lb k0_t1_loop.ub k0_t1_loop.st = 4 := by decide
  rw [ht] at hg hg'
  sl_exec
  sl_step
  isplitr
  · ipureintro; rfl
  isplitl [Hy]; · iexact Hy
  isplitl [Hz]; · iexact Hz
  isplitl [Hu]
  · refine Entails.of_eq (congrArg (fun g => iprop((uV).view.loc (thr d L) ↦{fullShare} g)) ?_)
    sl_unfold_run_names
    exact wts_end (uV).view g y L _ hg (fun x => congrFun (shapeCast_self (s := S16) _ _) x)
  isplitl [Hv]
  · refine Entails.of_eq (congrArg (fun g => iprop((vV).view.loc (thr d L) ↦{fullShare} g)) ?_)
    sl_unfold_run_names
    exact wts_end (vV).view g' z L _ hg' (fun x => congrFun (shapeCast_self (s := S16) _ _) x)
  isplitl [Hs0]; · iexact Hs0
  isplitl [Hs1]; · iexact Hs1
  iexists _; isplitr; swap
  · iexact HO
  ipureintro; intro p hp
  rcases Finset.mem_insert.mp hp with hp | hp
  · exact .inr (hp ▸ rfl)
  rcases Finset.mem_insert.mp hp with hp | hp
  · exact .inr (hp ▸ rfl)
  exact .inl hp

end Cert.Proof.Loss
-- ==== Proof.Trip.lean ====
module
public import proofs.«01_k».proof.Proof.Masks
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

/-! ## One block of eight rows added to the accumulator -/

/-- Rows `r0 … r0 + 7` of the table. -/
def blk (p : S16384x4096.Idx → F .f32) (r0 : ℕ) : S8x4096.Idx → F .f32 := fun i =>
  p (ix2 ⟨(r0 + (i 0).val) % 16384, Nat.mod_lt _ (by decide)⟩ (i 1))
/-- Sixteen weights from block `n` on. -/
def lanesAt (w : S80.Idx → F .f32) (n : ℕ) : S16.Idx → F .f32 := fun x => w (ix1 ⟨(8 * n + (x 0).val) % 80, Nat.mod_lt _ (by decide)⟩)
/-- The accumulator after the tile's first `n` blocks. -/
def accAfter (p : S16384x4096.Idx → F .f32) (y z : S16384.Idx → F .f32) (L : grid0.Coords) : ℕ → S12288.Idx → F .f32
  | 0 => fun _ => Scalar.ofBits .f32 0x00000000#32
  | n + 1 => accAt (blk p (baseOf L + 8 * n)) (lanesAt (wts y L) n) (lanesAt (wts z L) n) (accAfter p y z L n)

theorem groups_run (d : Dev nD) (L : grid0.Coords) (buf : Memref sig .scVector .vmem S8x4096 .f32) (hbuf : buf.IsWhole) (hS : buf.view.set = Finset.univ) (c0 c1 : BitVec 32)
    (w1 w2 : FVec F S16 .f32) (B : S8x4096.Idx → F .f32) (f : S12288.Idx → F .f32) (b : Buf (Elt F) (buf.view.loc (thr d L))) (hb : buf.view.read (Elt F) b = B) :
    iprop(((aV).view.loc (thr d L) ↦{fullShare} f) ∗ (buf.view.loc (thr d L) ↦{fullShare} b) : sProp 𝕄)
      ⊢ wp frame (wpE (defs₀ (F := F)) 𝒱₀ (thr d L) none) Set.univ (Scf.Loop.for k0_t4_loop k0_t4_ok ⟨⟩ fun t _ => groupProg L buf hbuf c0 c1 w1 w2 t)
        fun _ => iprop(((aV).view.loc (thr d L) ↦{fullShare} accAt B w1 w2 f) ∗ (buf.view.loc (thr d L) ↦{fullShare} b)) := by
  iintro ⟨Ha, Hb⟩
  sl_for (fun k _ => iprop(((aV).view.loc (thr d L) ↦{fullShare} accBetween 0 (128 * k) B w1 w2 f) ∗ (buf.view.loc (thr d L) ↦{fullShare} b))) $$ [Ha Hb]
  case region =>
    intro k _
    rw [← hS]
    refine (group_run d L buf hbuf c0 c1 w1 w2 k _ b).trans (wp_mono frame _ _ fun _ => Entails.of_eq ?_)
    rw [hb, accBetween_step]
  isplitl [Ha Hb]
  · isplitl [Ha]
    · rw [accBetween_zero]; iexact Ha
    · iexact Hb
  iintro %_ HI
  have ht : Scf.trips k0_t4_loop.lb k0_t4_loop.ub k0_t4_loop.st = 32 := by decide
  rw [ht, accBetween_all]
  iexact HI

theorem blk_read (p : S16384x4096.Idx → F .f32) {off : Fin 2 → ℕ} (inb : ∀ a, off a + S8x4096.size a ≤ S16384x4096.size a) (r0 : ℕ) (h0 : off = ![r0, 0]) :
    ((pV).slice (Rect.unit (s := S16384x4096) off S8x4096.size inb) (fun _ => rfl)).view.read (Elt F) p = blk p r0 := by
  subst h0
  funext x
  refine congrArg p ?_
  funext a
  have hx := (x 0).isLt
  have hi := inb 0
  match a with
  | 0 => apply Fin.ext
         show r0 + 1 * (x 0).val = (r0 + (x 0).val) % 16384
         have : r0 + 8 ≤ 16384 := hi
         have : (x 0).val < 8 := hx
         omega
  | 1 => apply Fin.ext
         show 0 + 1 * (x 1).val = (x 1).val
         omega

theorem lanes_load {sig' : RefSig} {κ' : Kind} {sp' : Space} (v : View sig' κ' sp' S80 .f32) (f : v.ty.Contents (Elt F)) {off : Fin 1 → ℕ} {n m : ℕ} (ho : off = ![n])
    (hn : n = 8 * m) {inb : ∀ a, off a + S16.size a ≤ S80.size a} {h : S16.ShapeCasts S16} :
    shapeCast S16 (v.readAt (Elt F) (Rect.unit (s := S80) off S16.size inb).toLoadRect f) h = lanesAt (v.read (Elt F) f) m := by
  funext x
  refine lane_load80 v f ho x _ ?_
  have hi : n + 16 ≤ 80 := by have := inb 0; rw [ho] at this; exact this
  have hx : (x 0).val < 16 := (x 0).isLt
  show (8 * m + (x 0).val) % 80 = n + (x 0).val
  omega

theorem cond1_iff : ∀ t : Fin k0_t3_loop.trips, k0_cond1 t = 1#1 ↔ t.val < 3 := by decide

/-- The even slot before trip `t`: its block on the way in while there is one, else the buffer at rest. -/
def slotE (d : Dev nD) (L : grid0.Coords) (q0 : PosShare TreeShare) (p : S16384x4096.Idx → F .f32) (t : ℕ) : sProp 𝕄 :=
  if t < 4 then
    iprop(∃ (b : S8x4096.Idx → F .f32) (A : Finset S16384x4096.Idx), ⌜b = blk p (baseOf L + 8 * (2 * t))⌝
      ∗ Transfers.Flight countersEmb (thr d L) (SemLoc.dma cc0_scratch5.sem) none 1048576
          iprop(((bV).view.loc (thr d L) ↦{fullShare} b) ∗ ((pV).view.loc (thr d L) ↦[A]{q0} p))
      ∗ ((pV).view.loc (thr d L) ↦[Finset.univ \ A]{q0} p))
  else iprop((∃ b, (bV).view.loc (thr d L) ↦{fullShare} b) ∗ ((pV).view.loc (thr d L) ↦{q0} p) ∗ semVal (thr d L, SemLoc.dma cc0_scratch5.sem) 0)

theorem part39_run (d : Dev nD) (L : grid0.Coords) (q0 q1 : PosShare TreeShare) (p : S16384x4096.Idx → F .f32) (y z : S16384.Idx → F .f32)
    (O : CellTallies nD τ sig (HIx 1)) (W : Waits sig (HIx 1)) (v3 c0 c1 : BitVec 32) (t : Fin k0_t3_loop.trips) :
    iprop((Transfers.MayWaits (thr d L) (none : HIx 1) O : sProp 𝕄)
        ∗ slotE d L q0 p t.val ∗ ((pV).view.loc (thr d L) ↦{q1} p) ∗ (∃ c, (cV).view.loc (thr d L) ↦{fullShare} c)
        ∗ ((aV).view.loc (thr d L) ↦{fullShare} accAfter p y z L (2 * t.val))
        ∗ ((uV).view.loc (thr d L) ↦{fullShare} wts y L) ∗ ((vV).view.loc (thr d L) ↦{fullShare} wts z L)
        ∗ semVal (thr d L, SemLoc.dma cc0_scratch6.sem) 0
        ∗ owes (thr d L) O W)
      ⊢ wp frame (wpE (defs₀ (F := F)) 𝒱₀ (thr d L) none) Set.univ
          (k0_part39 L pV (Memref.isWhole_whole _) yV (Memref.isWhole_whole _) zV (Memref.isWhole_whole _) oV (Memref.isWhole_whole _)
            bV (Memref.isWhole_whole _) cV (Memref.isWhole_whole _) aV (Memref.isWhole_whole _) uV (Memref.isWhole_whole _) vV (Memref.isWhole_whole _)
            cc0_scratch5 cc0_scratch6 cc0_scoped0 cc0_scoped1 cc0_scoped2 v3 c0 c1 t)
          fun r => iprop(slotE d L q0 p (t.val + 1) ∗ ((pV).view.loc (thr d L) ↦{q1} p)
            ∗ (∃ c : S8x4096.Idx → F .f32, ⌜c = blk p (baseOf L + 8 * (2 * t.val + 1))⌝ ∗ (cV).view.loc (thr d L) ↦{fullShare} c)
            ∗ ((aV).view.loc (thr d L) ↦{fullShare} accAfter p y z L (2 * t.val + 1))
            ∗ ((uV).view.loc (thr d L) ↦{fullShare} wts y L) ∗ ((vV).view.loc (thr d L) ↦{fullShare} wts z L)
            ∗ semVal (thr d L, SemLoc.dma cc0_scratch6.sem) 0
            ∗ ∃ W', ⌜∀ p ∈ W', p ∈ W ∨ p.2 = none⌝ ∗ owes (thr d L) O W') := by
  have ht : t.val < 4 := Nat.lt_of_lt_of_le t.isLt k0_t3_abs.2.1
  unfold slotE
  rw [if_pos ht]
  iintro ⟨#Hmw, ⟨%b, %A, %hb, Hs0, Hp0⟩, Hp1, ⟨%c, Hc⟩, Ha, Hu, Hv, Hs1, HO⟩
  unfold k0_part39
  sl_exec (disch := exact View.amount_pos _ _ (show 0 < S8x4096.numel by decide))
  sl_unfold_run_names
  have hw : ∀ w : S80.Idx → F .f32, shapeCast S16 ((uV).view.readAt (Elt F) (Rect.unit (s := S80) (k0_off7 t) S16.size (k0_off7_inb t)).toLoadRect w) shapeCasts_S16_S16 = lanesAt w (2 * t.val) :=
    fun w => lanes_load (uV).view w (k0_off7_eq t) (by omega)
  have hw' : ∀ w : S80.Idx → F .f32, shapeCast S16 ((vV).view.readAt (Elt F) (Rect.unit (s := S80) (k0_off7 t) S16.size (k0_off7_inb t)).toLoadRect w) shapeCasts_S16_S16 = lanesAt w (2 * t.val) :=
    fun w => lanes_load (vV).view w (k0_off7_eq t) (by omega)
  rw [hw, hw', wp_bind]
  iapply wp_wand_r
  isplitl [Ha Hs0_dst]
  · iapply (groups_run d L bV (Memref.isWhole_whole _) (View.set_whole _) 0#32 1#32 (lanesAt (wts y L) (2 * t.val)) (lanesAt (wts z L) (2 * t.val)) _ _ b hb)
    isplitl [Ha]; · iexact Ha
    iexact Hs0_dst
  iintro %_ ⟨Ha, Hb⟩
  by_cases h3 : t.val < 3
  · have hc : k0_cond1 t = 1#1 := (cond1_iff t).2 h3
    rw [dif_pos hc]
    sl_exec (disch := exact View.amount_pos _ _ (show 0 < S8x4096.numel by decide))
    sl_step
    sl_unfold_run_names
    isplitl [Hs0 Hp0]
    · rw [if_pos (by omega)]
      iexists _; iexists _
      isplitr; swap
      · isplitl [Hs0]; · iexact Hs0
        iexact Hp0
      · ipureintro
        refine (View.write_whole_univ _ _ _).trans (blk_read p _ _ ?_)
        exact (k0_off18_eq L t).trans (by congr 1; unfold baseOf; omega)
    isplitl [Hp1]; · iexact Hp1
    isplitl [Hc]
    · iexists _
      isplitr; swap; · iexact Hc
      ipureintro
      refine (View.write_whole_univ _ _ _).trans (blk_read p _ _ ?_)
      exact (k0_off5_eq L t).trans (by congr 1; unfold baseOf; omega)
    isplitl [Ha]; · iexact Ha
    isplitl [Hu]; · iexact Hu
    isplitl [Hv]; · iexact Hv
    isplitl [Hs1]; · iexact Hs1
    iexists _
    isplitr; swap; · iexact HO
    ipureintro
    intro g hg
    simp only [Finset.mem_insert] at hg
    rcases hg with rfl | rfl | hg
    · exact .inr rfl
    · exact .inr rfl
    · exact .inl hg
  · have hc : ¬ k0_cond1 t = 1#1 := fun h => h3 ((cond1_iff t).1 h)
    rw [dif_neg hc]
    sl_exec (disch := exact View.amount_pos _ _ (show 0 < S8x4096.numel by decide))
    sl_step
    sl_unfold_run_names
    isplitl [Hs0 Hp0 Hb]
    · rw [if_neg (by omega)]
      isplitl [Hb]; · iexists _; iexact Hb
      isplitl [Hp0]; · iexact Hp0
      iexact Hs0
    isplitl [Hp1]; · iexact Hp1
    isplitl [Hc]
    · iexists _
      isplitr; swap; · iexact Hc
      ipureintro
      refine (View.write_whole_univ _ _ _).trans (blk_read p _ _ ?_)
      exact (k0_off5_eq L t).trans (by congr 1; unfold baseOf; omega)
    isplitl [Ha]; · iexact Ha
    isplitl [Hu]; · iexact Hu
    isplitl [Hv]; · iexact Hv
    isplitl [Hs1]; · iexact Hs1
    iexists _
    isplitr; swap; · iexact HO
    ipureintro
    intro g hg
    simp only [Finset.mem_insert] at hg
    rcases hg with rfl | rfl | hg
    · exact .inr rfl
    · exact .inr rfl
    · exact .inl hg

end Cert.Proof.Loss
-- ==== Proof.Tile.lean ====
module
public import proofs.«01_k».proof.Proof.Trip
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

/-! ## The whole task of a tile -/

/-- The tile's row of the partial sums, as the kernel addresses it. -/
abbrev oRow (L : grid0.Coords) : Memref sig .scVector .hbm S12288 .f32 :=
  ((oV).slice (Rect.unit (s := S32x12288) (k0_off30 L) S1x12288.size (k0_off30_inb L)) (fun _ => rfl)).squeeze S12288 squeezes_S1x12288_S12288

/-- The accumulator with its first `n` words zero. -/
def zeroTo (n : ℕ) (g : S12288.Idx → F .f32) : Prop := ∀ k : S12288.Idx, (k 0).val < n → g k = Scalar.ofBits .f32 0x00000000#32

theorem zero_step {sig' : RefSig} {κ' : Kind} {sp' : Space} (v : View sig' κ' sp' S12288 .f32) (g : v.ty.Contents (Elt F))
    {off : Fin 1 → ℕ} {n : ℕ} (ho : off = ![n]) {inb : ∀ a, off a + S16.size a ≤ S12288.size a} (P : S16.Idx → F .f32)
    (hg : zeroTo n (v.read (Elt F) g)) (hP : ∀ x, P x = Scalar.ofBits .f32 0x00000000#32) :
    zeroTo (n + 16) (v.read (Elt F) (v.writes (Elt F) g [⟨Rect.unit (s := S12288) off S16.size inb, P⟩])) := by
  intro k hk
  by_cases hin : n ≤ (k 0).val
  · have e := View.read_writes_cons_unit_of_mem v g inb P [] k (ix1 (⟨(k 0).val - n, by omega⟩ : Fin 16)) ho (fun a => by
      match a with
      | 0 => show (k 0).val = n + ((k 0).val - n); omega)
    rw [e, hP]
  · have e := View.read_writes_cons_unit_of_not_mem v g inb P [] k ho 0 (by
      show (k 0).val < n ∨ n + 16 ≤ (k 0).val; omega)
    rw [e]
    exact hg k (by omega)

/-- Between two pairs of blocks. -/
def tripInv (d : Dev nD) (L : grid0.Coords) (q0 q1 : PosShare TreeShare) (p : S16384x4096.Idx → F .f32) (y z : S16384.Idx → F .f32)
    (O : CellTallies nD τ sig (HIx 1)) (W : Waits sig (HIx 1)) (k : ℕ) (_ : PUnit) : sProp 𝕄 :=
  iprop((Transfers.MayWaits (thr d L) (none : HIx 1) O : sProp 𝕄) ∗ slotE d L q0 p k ∗ ((pV).view.loc (thr d L) ↦{q1} p) ∗ (∃ c, (cV).view.loc (thr d L) ↦{fullShare} c)
        ∗ ((aV).view.loc (thr d L) ↦{fullShare} accAfter p y z L (2 * k))
        ∗ ((uV).view.loc (thr d L) ↦{fullShare} wts y L) ∗ ((vV).view.loc (thr d L) ↦{fullShare} wts z L)
        ∗ semVal (thr d L, SemLoc.dma cc0_scratch6.sem) 0
        ∗ ∃ W', ⌜∀ p ∈ W', p ∈ W ∨ p.2 = none⌝ ∗ owes (thr d L) O W')

theorem tile_core (d : Dev nD) (L : grid0.Coords) (q0 q1 qy qz : PosShare TreeShare) (p : S16384x4096.Idx → F .f32) (y z : S16384.Idx → F .f32)
    (O : CellTallies nD τ sig (HIx 1)) (W : Waits sig (HIx 1)) (hO : ∀ g, O g none = 0)
    (fb : Buf (Elt F) ((bV).view.loc (thr d L))) (fc : Buf (Elt F) ((cV).view.loc (thr d L))) (fa : Buf (Elt F) ((aV).view.loc (thr d L)))
    (fu : Buf (Elt F) ((uV).view.loc (thr d L))) (fv : Buf (Elt F) ((vV).view.loc (thr d L))) (fo : Buf (Elt F) ((oRow L).view.loc (thr d L))) :
    iprop((Transfers.MayWaits (thr d L) (none : HIx 1) O : sProp 𝕄)
        ∗ ((pV).view.loc (thr d L) ↦{q0} p) ∗ ((pV).view.loc (thr d L) ↦{q1} p)
        ∗ ((yV).view.loc (thr d L) ↦{qy} y) ∗ ((zV).view.loc (thr d L) ↦{qz} z)
        ∗ ((oRow L).view.loc (thr d L) ↦[(oRow L).view.set]{fullShare} fo)
        ∗ ((bV).view.loc (thr d L) ↦{fullShare} fb) ∗ ((cV).view.loc (thr d L) ↦{fullShare} fc) ∗ ((aV).view.loc (thr d L) ↦{fullShare} fa)
        ∗ ((uV).view.loc (thr d L) ↦{fullShare} fu) ∗ ((vV).view.loc (thr d L) ↦{fullShare} fv)
        ∗ semVal (thr d L, SemLoc.dma cc0_scoped0.sem) 0 ∗ semVal (thr d L, SemLoc.dma cc0_scoped1.sem) 0
        ∗ semVal (thr d L, SemLoc.dma cc0_scoped2.sem) 0
        ∗ semVal (thr d L, SemLoc.dma cc0_scratch5.sem) 0 ∗ semVal (thr d L, SemLoc.dma cc0_scratch6.sem) 0
        ∗ owes (thr d L) O W)
      ⊢ wp frame (wpE (defs₀ (F := F)) 𝒱₀ (thr d L) none) Set.univ
          (cc0__sc_partial_sums L pV (Memref.isWhole_whole _) yV (Memref.isWhole_whole _) zV (Memref.isWhole_whole _) oV (Memref.isWhole_whole _)
            bV (Memref.isWhole_whole _) cV (Memref.isWhole_whole _) aV (Memref.isWhole_whole _) uV (Memref.isWhole_whole _) vV (Memref.isWhole_whole _)
            cc0_scratch5 cc0_scratch6 cc0_scoped0 cc0_scoped1 cc0_scoped2)
          fun _ => iprop(((pV).view.loc (thr d L) ↦{q0} p) ∗ ((pV).view.loc (thr d L) ↦{q1} p)
            ∗ ((yV).view.loc (thr d L) ↦{qy} y) ∗ ((zV).view.loc (thr d L) ↦{qz} z)
            ∗ (∃ g, ⌜(oRow L).view.read (Elt F) g = accAfter p y z L 8⌝ ∗ (oRow L).view.loc (thr d L) ↦[(oRow L).view.set]{fullShare} g)
            ∗ (∃ f, (bV).view.loc (thr d L) ↦{fullShare} f) ∗ (∃ f, (cV).view.loc (thr d L) ↦{fullShare} f) ∗ (∃ f, (aV).view.loc (thr d L) ↦{fullShare} f)
            ∗ (∃ f, (uV).view.loc (thr d L) ↦{fullShare} f) ∗ (∃ f, (vV).view.loc (thr d L) ↦{fullShare} f)
            ∗ semVal (thr d L, SemLoc.dma cc0_scoped0.sem) 0 ∗ semVal (thr d L, SemLoc.dma cc0_scoped1.sem) 0
            ∗ semVal (thr d L, SemLoc.dma cc0_scoped2.sem) 0
            ∗ semVal (thr d L, SemLoc.dma cc0_scratch5.sem) 0 ∗ semVal (thr d L, SemLoc.dma cc0_scratch6.sem) 0
            ∗ ∃ W', ⌜∀ p ∈ W', p ∈ W ∨ p.2 = none⌝ ∗ owes (thr d L) O W') := by
  iintro ⟨#Hmw, Hp0, Hp1, Hy, Hz, Ho, Hb, Hc, Ha, Hu, Hv, Hr0, Hr1, Hr2, Hs0, Hs1, HO⟩
  unfold cc0__sc_partial_sums
  rw [wp_bind]
  iapply wp_wand_r
  isplitl [Hy Hz Hu Hv Hr0 Hr1 HO]
  · iapply (part40_run d L qy qz y z O W hO fu fv)
    isplitr; · iexact Hmw
    isplitl [Hy]; · iexact Hy
    isplitl [Hz]; · iexact Hz
    isplitl [Hu]; · iexact Hu
    isplitl [Hv]; · iexact Hv
    isplitl [Hr0]; · iexact Hr0
    isplitl [Hr1]; · iexact Hr1
    iexact HO
  iintro %r ⟨%hr, Hy, Hz, Hu, Hv, Hr0, Hr1, %W1, %hW1, HO⟩
  obtain ⟨v3, v4, c0⟩ := r
  replace hr : v4 = broadcast S16 (Scalar.ofBits .f32 0x00000000#32) := hr
  subst hr
  sl_exec
  sl_for (fun k _ => iprop(∃ g, ⌜zeroTo (16 * k) g⌝ ∗ (aV).view.loc (thr d L) ↦{fullShare} g)) $$ [Ha]
  case region =>
    intro k _
    iintro ⟨%g, %hg, Ha⟩
    sl_exec
    sl_step
    iexists _
    isplitr; swap; · iexact Ha
    ipureintro
    refine zero_step (aV).view g (k0_off3_eq k) _ hg (fun x => ?_)
    sl_unfold_run_names
    exact congrFun (shapeCast_self (s := S16) _ _) x
  · iexists _
    isplitr; swap; · iexact Ha
    ipureintro
    intro k hk
    exact absurd hk (by omega)
  iintro %_ ⟨%g, %hg, Ha⟩
  have hg0 : g = accAfter p y z L 0 := by
    funext k
    exact hg k (by
      have h : Scf.trips k0_t2_loop.lb k0_t2_loop.ub k0_t2_loop.st = 768 := by decide
      rw [h]; exact (k 0).isLt)
  subst hg0
  sl_exec (disch := exact View.amount_pos _ _ (show 0 < S8x4096.numel by decide))
  sl_unfold_run_names
  sl_for (tripInv d L q0 q1 p y z O W) $$ [Hs0 Hp0 Hp1 Hc Ha Hu Hv Hs1 HO]
  case region =>
    intro k _
    have hk : k.val < 4 := Nat.lt_of_lt_of_le k.isLt k0_t3_abs.2.1
    unfold tripInv
    iintro ⟨#Hmw, Hslot, Hp1, Hc, Ha, Hu, Hv, Hs1, %W2, %hW2, HO⟩
    unfold tile_core.sl.prog.body_2
    rw [wp_bind]
    iapply wp_wand_r
    isplitl [Hslot Hp1 Hc Ha Hu Hv Hs1 HO]
    · iapply (part39_run d L q0 q1 p y z O W2)
      isplitr; · iexact Hmw
      isplitl [Hslot]; · iexact Hslot
      isplitl [Hp1]; · iexact Hp1
      isplitl [Hc]; · iexact Hc
      isplitl [Ha]; · iexact Ha
      isplitl [Hu]; · iexact Hu
      isplitl [Hv]; · iexact Hv
      isplitl [Hs1]; · iexact Hs1
      iexact HO
    iintro %r ⟨Hslot, Hp1, ⟨%c, %hc, Hc⟩, Ha, Hu, Hv, Hs1, %W3, %hW3, HO⟩
    sl_exec
    sl_unfold_run_names
    have hw : ∀ w : S80.Idx → F .f32, shapeCast S16 ((uV).view.readAt (Elt F) (Rect.unit (s := S80) (k0_off19 k) S16.size (k0_off19_inb k)).toLoadRect w) shapeCasts_S16_S16 = lanesAt w (2 * k.val + 1) :=
      fun w => lanes_load (uV).view w (k0_off19_eq k) (by omega)
    have hw' : ∀ w : S80.Idx → F .f32, shapeCast S16 ((vV).view.readAt (Elt F) (Rect.unit (s := S80) (k0_off19 k) S16.size (k0_off19_inb k)).toLoadRect w) shapeCasts_S16_S16 = lanesAt w (2 * k.val + 1) :=
      fun w => lanes_load (vV).view w (k0_off19_eq k) (by omega)
    rw [hw, hw', wp_bind]
    iapply wp_wand_r
    isplitl [Ha Hc]
    · iapply (groups_run d L cV (Memref.isWhole_whole _) (View.set_whole _) 0#32 1#32 (lanesAt (wts y L) (2 * k.val + 1)) (lanesAt (wts z L) (2 * k.val + 1)) _ _ c hc)
      isplitl [Ha]; · iexact Ha
      iexact Hc
    iintro %_ ⟨Ha, Hc⟩
    sl_exec
    sl_step
    isplitr; · iexact Hmw
    isplitl [Hslot]; · iexact Hslot
    isplitl [Hp1]; · iexact Hp1
    isplitl [Hc]; · iexists _; iexact Hc
    isplitl [Ha]; · iexact Ha
    isplitl [Hu]; · iexact Hu
    isplitl [Hv]; · iexact Hv
    isplitl [Hs1]; · iexact Hs1
    iexists _
    isplitr; swap; · iexact HO
    ipureintro
    intro g hg
    rcases hW3 g hg with h | h
    · exact hW2 g h
    · exact .inr h
  · unfold tripInv slotE
    rw [if_pos (by decide)]
    isplitr; · iexact Hmw
    isplitl [Hs0 Hp0]
    · iexists _; iexists _
      isplitr; swap
      · isplitl [Hs0]; · iexact Hs0
        iexact Hp0
      · ipureintro
        refine (View.write_whole_univ _ _ _).trans (blk_read p _ _ ?_)
        exact (k0_off4_eq L).trans (by congr 1)
    isplitl [Hp1]; · iexact Hp1
    isplitl [Hc]; · iexists _; iexact Hc
    isplitl [Ha]; · iexact Ha
    isplitl [Hu]; · iexact Hu
    isplitl [Hv]; · iexact Hv
    isplitl [Hs1]; · iexact Hs1
    iexists _
    isplitr; swap; · iexact HO
    ipureintro
    exact hW1
  iintro %_ HI
  have h4 : Scf.trips k0_t3_loop.lb k0_t3_loop.ub k0_t3_loop.st = 4 := by decide
  rw [h4]
  unfold tripInv slotE
  rw [if_neg (by decide)]
  icases HI with ⟨-, ⟨Hb, Hp0, Hs0⟩, Hp1, Hc, Ha, Hu, Hv, Hs1, %W2, %hW2, HO⟩
  sl_exec (disch := exact View.amount_pos _ _ (show 0 < S12288.numel by decide))
  sl_step
  sl_unfold_run_names
  isplitl [Hp0]; · iexact Hp0
  isplitl [Hp1]; · iexact Hp1
  isplitl [Hy]; · iexact Hy
  isplitl [Hz]; · iexact Hz
  isplitl [Ho]
  · iexists _
    isplitr; swap; · iexact Ho
    ipureintro
    exact View.read_writes_whole _ _ _
  isplitl [Hb]; · iexact Hb
  isplitl [Hc]; · iexact Hc
  isplitl [Ha]; · iexists _; iexact Ha
  isplitl [Hu]; · iexists _; iexact Hu
  isplitl [Hv]; · iexists _; iexact Hv
  isplitl [Hr0]; · iexact Hr0
  isplitl [Hr1]; · iexact Hr1
  isplitl [Hr2]; · iexact Hr2
  isplitl [Hs0]; · iexact Hs0
  isplitl [Hs1]; · iexact Hs1
  iexists _
  isplitr; swap; · iexact HO
  ipureintro
  intro g hg
  simp only [Finset.mem_insert] at hg
  rcases hg with rfl | hg
  · exact .inr rfl
  · exact hW2 g hg

end Cert.Proof.Loss
-- ==== Proof.Split.lean ====
module
public import proofs.«01_k».proof.Proof.Tile
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

variable (m : (ℓ : Loc nD τ sig) → Buf (Elt F) ℓ) (ρ : Dev nD → PrngReg)

/-! ## The arrays -/

abbrev pLoc (d : Dev nD) : Loc nD τ sig := (SparseCore.T d).loc main_arg0
abbrev yLoc (d : Dev nD) : Loc nD τ sig := (SparseCore.T d).loc main_arg1
abbrev zLoc (d : Dev nD) : Loc nD τ sig := (SparseCore.T d).loc main_arg2
abbrev oLoc (d : Dev nD) : Loc nD τ sig := (SparseCore.T d).loc main_v0

/-- The task of SparseCore `c`, subcore `i`. -/
def coordsV (c : Fin (grid0.bound 0)) (s : Fin (grid0.bound 1)) : grid0.Coords :=
  fun | 0 => c | 1 => s | ⟨_ + 2, h⟩ => absurd h (Nat.not_lt.2 (Nat.le_add_left _ _))
/-- The task that writes row `w` of the partial sums. -/
def rowTask (w : ℕ) : grid0.Coords :=
  coordsV (⟨w % 2, Nat.mod_lt _ (by decide)⟩ : Fin 2) (⟨w / 2 % 16, Nat.mod_lt _ (by decide)⟩ : Fin 16)
/-- The partial sums: row `w` is the accumulator of its task after its eight blocks. -/
def sums (p : S16384x4096.Idx → F .f32) (y z : S16384.Idx → F .f32) : S32x12288.Idx → F .f32 := fun i =>
  accAfter p y z (rowTask (i 0).val) 8 (ix1 (i 1))

/-- SparseCore `c`'s rows of the partial sums, and its subcore `i`'s. -/
def coreSet (c : Fin 2) : Finset S32x12288.Idx := Finset.univ.filter fun x => (x 0).val % 2 = c.val
def rowSet (c : Fin 2) (i : Fin 16) : Finset S32x12288.Idx := Finset.univ.filter fun x => (x 0).val = 2 * i.val + c.val

theorem coreSet_eq (c : Fin 2) : coreSet c = Finset.univ.biUnion fun i => rowSet c i := by
  ext x
  simp only [coreSet, rowSet, Finset.mem_filter, Finset.mem_univ, true_and, Finset.mem_biUnion]
  have hx : (x 0).val < 32 := (x 0).isLt
  have hc := c.isLt
  constructor
  · intro h; exact ⟨⟨(x 0).val / 2, by omega⟩, by show (x 0).val = 2 * ((x 0).val / 2) + c.val; omega⟩
  · rintro ⟨i, hi⟩; omega
theorem univ_eq_cores : (Finset.univ : Finset S32x12288.Idx) = Finset.univ.biUnion coreSet := by
  ext x
  simp only [coreSet, Finset.mem_filter, Finset.mem_univ, true_and, Finset.mem_biUnion, true_iff]
  exact ⟨⟨(x 0).val % 2, Nat.mod_lt _ (by decide)⟩, rfl⟩
theorem cores_disjoint : ∀ c ∈ (Finset.univ : Finset (Fin 2)), ∀ c' ∈ (Finset.univ : Finset (Fin 2)), c ≠ c' → Disjoint (coreSet c) (coreSet c') := by
  intro c _ c' _ h
  rw [Finset.disjoint_left]
  intro x hx hx'
  simp only [coreSet, Finset.mem_filter, Finset.mem_univ, true_and] at hx hx'
  exact h (Fin.ext (hx.symm.trans hx'))
theorem rows_disjoint (c : Fin 2) : ∀ i ∈ (Finset.univ : Finset (Fin 16)), ∀ j ∈ (Finset.univ : Finset (Fin 16)), i ≠ j → Disjoint (rowSet c i) (rowSet c j) := by
  intro i _ j _ h
  rw [Finset.disjoint_left]
  intro x hx hx'
  simp only [rowSet, Finset.mem_filter, Finset.mem_univ, true_and] at hx hx'
  exact h (Fin.ext (by omega))

/-- SparseCore `c`'s share of an array every task reads, and its subcore `i`'s. -/
abbrev cq (c : Fin 2) : PosShare TreeShare := Transfers.dealOf fullShare Finset.univ c
abbrev tq (c : Fin 2) (i : Fin 16) : PosShare TreeShare := Transfers.dealOf (cq c) Finset.univ i

/-! ## What the handshakes carry -/

/-- The three inputs at a share. -/
abbrev insAt (d : Dev nD) (q : PosShare TreeShare) : sProp 𝕄 :=
  iprop((pLoc d ↦{q} m (pLoc d)) ∗ (yLoc d ↦{q} m (yLoc d)) ∗ (zLoc d ↦{q} m (zLoc d)))
abbrev sumsOf (d : Dev nD) : Buf (Elt F) (oLoc d) := sums (m (pLoc d)) (m (yLoc d)) (m (zLoc d))

/-- Each SparseCore takes its share of the inputs and its rows of the result, each subcore its share of those; the rows
    come back at the partial sums. -/
def P : (K (F := F)).Pay (nD := nD) (Val := Elt F) (Name := ℕ) (U := UU) where
  st := fun q d c => match q with | 0 => iprop(insAt m d (cq (Fin.cast nCore_zero c)) ∗ oLoc d ↦[coreSet (Fin.cast nCore_zero c)]{fullShare} m (oLoc d))
  dn := fun q d c => match q with | 0 => iprop(insAt m d (cq (Fin.cast nCore_zero c)) ∗ oLoc d ↦[coreSet (Fin.cast nCore_zero c)]{fullShare} sumsOf m d)
  go := fun q d c i => match q with
    | 0 => iprop(insAt m d (tq (Fin.cast nCore_zero c) (Fin.cast nSub_zero i)) ∗ oLoc d ↦[rowSet (Fin.cast nCore_zero c) (Fin.cast nSub_zero i)]{fullShare} m (oLoc d))
  td := fun q d c i => match q with
    | 0 => iprop(insAt m d (tq (Fin.cast nCore_zero c) (Fin.cast nSub_zero i)) ∗ oLoc d ↦[rowSet (Fin.cast nCore_zero c) (Fin.cast nSub_zero i)]{fullShare} sumsOf m d)
  x := fun _ _ => iprop(emp)

instance P_storable : (P (F := F) m).IsStorable where
  st q d c := match q with
    | 0 => (inferInstance : BI.Storable (upEmb : UEmb _ 𝕄) iprop(insAt m d (cq (Fin.cast nCore_zero c)) ∗ oLoc d ↦[coreSet (Fin.cast nCore_zero c)]{fullShare} m (oLoc d)))
  dn q d c := match q with
    | 0 => (inferInstance : BI.Storable (upEmb : UEmb _ 𝕄) iprop(insAt m d (cq (Fin.cast nCore_zero c)) ∗ oLoc d ↦[coreSet (Fin.cast nCore_zero c)]{fullShare} sumsOf m d))
  go q d c i := match q with
    | 0 => (inferInstance : BI.Storable (upEmb : UEmb _ 𝕄) iprop(insAt m d (tq (Fin.cast nCore_zero c) (Fin.cast nSub_zero i)) ∗ oLoc d ↦[rowSet (Fin.cast nCore_zero c) (Fin.cast nSub_zero i)]{fullShare} m (oLoc d)))
  td q d c i := match q with
    | 0 => (inferInstance : BI.Storable (upEmb : UEmb _ 𝕄) iprop(insAt m d (tq (Fin.cast nCore_zero c) (Fin.cast nSub_zero i)) ∗ oLoc d ↦[rowSet (Fin.cast nCore_zero c) (Fin.cast nSub_zero i)]{fullShare} sumsOf m d))

/-! ## The task between what the launch deals and what it takes back -/

section Tile

variable (d : Dev nD) (L : grid0.Coords)

abbrev cF (L : grid0.Coords) : Fin 2 := Fin.cast (show grid0.bound 0 = 2 from rfl) (L 0)
abbrev iF (L : grid0.Coords) : Fin 16 := Fin.cast (show grid0.bound 1 = 16 from rfl) (L 1)

theorem set_oRow : (oRow L).view.set = rowSet (cF L) (iF L) := by
  show (((oV).view.slice (Rect.unit (s := S32x12288) (k0_off30 L) S1x12288.size (k0_off30_inb L))).reshape S12288 squeezes_S1x12288_S12288.numel_eq).set = _
  rw [View.set_reshape, View.set_slice]
  refine (Finset.map_refl).trans ?_
  ext x
  refine Rect.mem_set_unit.trans ?_
  rw [k0_off30_eq]
  simp only [rowSet, Finset.mem_filter, Finset.mem_univ, true_and]
  constructor
  · intro h
    have h0 : 2 * (L 1).val + (L 0).val ≤ (x 0).val ∧ (x 0).val < 2 * (L 1).val + (L 0).val + 1 := h 0
    show (x 0).val = 2 * (L 1).val + (L 0).val
    omega
  · intro h a
    have h' : (x 0).val = 2 * (L 1).val + (L 0).val := h
    match a with
    | 0 => exact ⟨le_of_eq h'.symm, by show (x 0).val < 2 * (L 1).val + (L 0).val + 1; omega⟩
    | 1 => exact ⟨Nat.zero_le _, by show (x 1).val < 0 + 12288; have := (x 1).isLt; exact (Nat.zero_add _).symm ▸ this⟩

theorem pts_oRow (f : Buf (Elt F) (oLoc d)) :
    ((oRow L).view.loc (thr d L) ↦[(oRow L).view.set]{fullShare} f : sProp 𝕄) = oLoc d ↦[rowSet (cF L) (iF L)]{fullShare} f := by
  rw [set_oRow]

theorem rowTask_eq : rowTask (2 * (L 1).val + (L 0).val) = L := by
  have h0 : (L 0).val < 2 := (L 0).isLt
  have h1 : (L 1).val < 16 := (L 1).isLt
  funext a
  match a with
  | 0 => exact Fin.ext (show (2 * (L 1).val + (L 0).val) % 2 = (L 0).val by omega)
  | 1 => exact Fin.ext (show (2 * (L 1).val + (L 0).val) / 2 % 16 = (L 1).val by omega)

/-- The task's row at the accumulator is its row of the partial sums. -/
theorem row_sums (p : S16384x4096.Idx → F .f32) (y z : S16384.Idx → F .f32) (g : Buf (Elt F) (oLoc d))
    (hg : (oRow L).view.read (Elt F) g = accAfter p y z L 8) : ∀ i ∈ (oRow L).view.set, g i = sums p y z i := by
  intro i hi
  obtain ⟨x, rfl⟩ : ∃ x, (oRow L).view.emb x = i := by
    have := hi
    unfold View.set at this
    simpa using this
  have hx : ((oRow L).view.emb x) 0 = (((oRow L).view.emb x) 0 : Fin 32) := rfl
  have hmem : (oRow L).view.emb x ∈ rowSet (cF L) (iF L) := set_oRow L ▸ hi
  have h0 : (((oRow L).view.emb x) 0).val = 2 * (L 1).val + (L 0).val :=
    (Finset.mem_filter.mp hmem).2
  have hr : g ((oRow L).view.emb x) = accAfter p y z L 8 x := congrFun hg x
  rw [hr]
  unfold sums
  rw [h0, rowTask_eq]
  refine congrArg (accAfter p y z L 8) ?_
  funext a
  match a with
  | 0 =>
    refine Fin.ext ?_
    show (x 0).val = 0 + 1 * ((Shape.reshapeEquiv squeezes_S1x12288_S12288.numel_eq x : S1x12288.Idx) 1).val
    rw [Shape.reshapeEquiv_cons_one]
    show (x 0).val = 0 + 1 * (x 0).val
    omega

theorem ownSems0_V :
    (ownSems0 (thr d L) : sProp 𝕄)
      = iprop(semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0 ∗ semVal ((thr d L, SemLoc.dma cc0_scratch5.sem) : GSem nD τ sig) 0 ∗ semVal ((thr d L, SemLoc.dma cc0_scratch6.sem) : GSem nD τ sig) 0
          ∗ bigSep ((((((ownCells (thr d L)).erase ((thr d L, SemLoc.dma cc0_scoped0.sem) : GSem nD τ sig)).erase ((thr d L, SemLoc.dma cc0_scoped1.sem) : GSem nD τ sig)).erase ((thr d L, SemLoc.dma cc0_scoped2.sem) : GSem nD τ sig)).erase ((thr d L, SemLoc.dma cc0_scratch5.sem) : GSem nD τ sig)).erase ((thr d L, SemLoc.dma cc0_scratch6.sem) : GSem nD τ sig)) fun g => semVal g 0) := by
  unfold SparseCore.Cfg.ownSems0
  rw [SparseCore.bigSep_erase' ((mem_ownCells (g := ((thr d L, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := ((thr d L, SemLoc.dma cc0_scoped1.sem) : GSem nD τ sig))).mpr ⟨rfl, by show (SemLoc.dma cc0_scoped1.sem : SemLoc sig).isScoped .scVector = true; decide⟩⟩),
    SparseCore.bigSep_erase' (Finset.mem_erase.mpr ⟨fun e => absurd (congrArg Prod.snd e) (show (SemLoc.dma cc0_scoped2.sem : SemLoc sig) ≠ SemLoc.dma cc0_scoped1.sem by decide), Finset.mem_erase.mpr ⟨fun e => absurd (congrArg Prod.snd e) (show (SemLoc.dma cc0_scoped2.sem : SemLoc sig) ≠ SemLoc.dma cc0_scoped0.sem by decide), (mem_ownCells (g := ((thr d L, SemLoc.dma cc0_scoped2.sem) : GSem nD τ sig))).mpr ⟨rfl, by show (SemLoc.dma cc0_scoped2.sem : SemLoc sig).isScoped .scVector = true; decide⟩⟩⟩),
    SparseCore.bigSep_erase' (Finset.mem_erase.mpr ⟨fun e => absurd (congrArg Prod.snd e) (show (SemLoc.dma cc0_scratch5.sem : SemLoc sig) ≠ SemLoc.dma cc0_scoped2.sem by decide), Finset.mem_erase.mpr ⟨fun e => absurd (congrArg Prod.snd e) (show (SemLoc.dma cc0_scratch5.sem : SemLoc sig) ≠ SemLoc.dma cc0_scoped1.sem by decide), Finset.mem_erase.mpr ⟨fun e => absurd (congrArg Prod.snd e) (show (SemLoc.dma cc0_scratch5.sem : SemLoc sig) ≠ SemLoc.dma cc0_scoped0.sem by decide), (mem_ownCells (g := ((thr d L, SemLoc.dma cc0_scratch5.sem) : GSem nD τ sig))).mpr ⟨rfl, by show (SemLoc.dma cc0_scratch5.sem : SemLoc sig).isScoped .scVector = true; decide⟩⟩⟩⟩),
    SparseCore.bigSep_erase' (Finset.mem_erase.mpr ⟨fun e => absurd (congrArg Prod.snd e) (show (SemLoc.dma cc0_scratch6.sem : SemLoc sig) ≠ SemLoc.dma cc0_scratch5.sem by decide), Finset.mem_erase.mpr ⟨fun e => absurd (congrArg Prod.snd e) (show (SemLoc.dma cc0_scratch6.sem : SemLoc sig) ≠ SemLoc.dma cc0_scoped2.sem by decide), Finset.mem_erase.mpr ⟨fun e => absurd (congrArg Prod.snd e) (show (SemLoc.dma cc0_scratch6.sem : SemLoc sig) ≠ SemLoc.dma cc0_scoped1.sem by decide), Finset.mem_erase.mpr ⟨fun e => absurd (congrArg Prod.snd e) (show (SemLoc.dma cc0_scratch6.sem : SemLoc sig) ≠ SemLoc.dma cc0_scoped0.sem by decide), (mem_ownCells (g := ((thr d L, SemLoc.dma cc0_scratch6.sem) : GSem nD τ sig))).mpr ⟨rfl, by show (SemLoc.dma cc0_scratch6.sem : SemLoc sig).isScoped .scVector = true; decide⟩⟩⟩⟩⟩)]

theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector (cT L) (sT L))).erase ((Proc.scVector (cT L) (sT L)).devRef cc0_scratch0)).erase ((Proc.scVector (cT L) (sT L)).devRef cc0_scratch1)).erase ((Proc.scVector (cT L) (sT L)).devRef cc0_scratch2)).erase ((Proc.scVector (cT L) (sT L)).devRef cc0_scratch3)).erase ((Proc.scVector (cT L) (sT L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cT L) (sT L)) (b := (Proc.scVector (cT L) (sT L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cT L) (sT L)) (b := (Proc.scVector (cT L) (sT L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cT L) (sT L)) (b := (Proc.scVector (cT L) (sT L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cT L) (sT L)) (b := (Proc.scVector (cT L) (sT L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cT L) (sT L)) (b := (Proc.scVector (cT L) (sT L)).devRef cc0_scratch4) rfl⟩⟩⟩⟩)]

/-- A share of an array as what stays with the task and two read tokens. -/
theorem two_toks (ℓ : Loc nD τ sig) (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

theorem tile_body (hF : (K (F := F)).Facts) (O : CellTallies nD τ sig (HIx 1)) (W : Waits sig (HIx 1)) (hO : ∀ g, O g none = 0) :
    iprop(levAts (K (F := F)).L (K (F := F)).lev ∗ emp
        ∗ (insAt m d (tq (cF L) (iF L)) ∗ oLoc d ↦[rowSet (cF L) (iF L)]{fullShare} m (oLoc d))
        ∗ scopedBufs (thr d L) ∗ scopedSems0 (thr d L) ∗ owes (thr d L) O W)
      ⊢ wp frame (wpE (defs₀ (F := F)) 𝒱₀ (thr d L) none) Set.univ
          (cc0__sc_partial_sums L pV (Memref.isWhole_whole _) yV (Memref.isWhole_whole _) zV (Memref.isWhole_whole _) oV (Memref.isWhole_whole _)
            bV (Memref.isWhole_whole _) cV (Memref.isWhole_whole _) aV (Memref.isWhole_whole _) uV (Memref.isWhole_whole _) vV (Memref.isWhole_whole _)
            cc0_scratch5 cc0_scratch6 cc0_scoped0 cc0_scoped1 cc0_scoped2)
          fun _ => iprop((insAt m d (tq (cF L) (iF L)) ∗ oLoc d ↦[rowSet (cF L) (iF L)]{fullShare} sumsOf m d)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cT L) (sT L), SparseCore.Cfg.scopedSems0_V (Val := Elt F) d (cT L) (sT L), ownSems0_V, ownBufs_V]
  iintro ⟨#Hlv, -, ⟨⟨Hp, Hy, Hz⟩, Ho⟩, ⟨⟨%fb, Hb⟩, ⟨%fc, Hc⟩, ⟨%fa, Ha⟩, ⟨%fu, Hu⟩, ⟨%fv, Hv⟩, Hbufs⟩, ⟨Hr0, Hr1, Hr2, Hs0, Hs1, Hsems⟩, HO⟩
  ihave Hmw := (show levAts (K (F := F)).L (K (F := F)).lev ⊢ Transfers.MayWaits (thr d L) (none : HIx 1) O from
    (K (F := F)).mayWaits_none (thr := thr d L) hO) $$ Hlv
  ihave Hp' := (two_toks (pLoc d) _ _).1 $$ Hp
  icases Hp' with ⟨Hpd, Hp0, Hp1⟩
  ihave Ho' := (Entails.of_eq (pts_oRow (F := F) d L _).symm) $$ Ho
  iapply wp_wand_r
  isplitl [Hmw Hp0 Hp1 Hy Hz Ho' Hb Hc Ha Hu Hv Hr0 Hr1 Hr2 Hs0 Hs1 HO]
  · iapply (tile_core d L (Transfers.shareTokN (tq (cF L) (iF L)) 0) (Transfers.shareTokN (tq (cF L) (iF L)) 1) (tq (cF L) (iF L)) (tq (cF L) (iF L))
      (m (pLoc d)) (m (yLoc d)) (m (zLoc d)) O W hO fb fc fa fu fv (m (oLoc d)))
    isplitl [Hmw]; · iexact Hmw
    isplitl [Hp0]; · iexact Hp0
    isplitl [Hp1]; · iexact Hp1
    isplitl [Hy]; · iexact Hy
    isplitl [Hz]; · iexact Hz
    isplitl [Ho']; · iexact Ho'
    isplitl [Hb]; · iexact Hb
    isplitl [Hc]; · iexact Hc
    isplitl [Ha]; · iexact Ha
    isplitl [Hu]; · iexact Hu
    isplitl [Hv]; · iexact Hv
    isplitl [Hr0]; · iexact Hr0
    isplitl [Hr1]; · iexact Hr1
    isplitl [Hr2]; · iexact Hr2
    isplitl [Hs0]; · iexact Hs0
    isplitl [Hs1]; · iexact Hs1
    iexact HO
  iintro %_ ⟨Hp0, Hp1, Hy, Hz, ⟨%g, %hg, Ho⟩, Hb, Hc, Ha, Hu, Hv, Hr0, Hr1, Hr2, Hs0, Hs1, %W', %hW', HO⟩
  isplitl [Hpd Hp0 Hp1 Hy Hz Ho]
  · isplitr [Ho]
    · isplitl [Hpd Hp0 Hp1]
      · iapply (two_toks (pLoc d) _ _).2
        isplitl [Hpd]; · iexact Hpd
        isplitl [Hp0]; · iexact Hp0
        iexact Hp1
      isplitl [Hy]; · iexact Hy
      iexact Hz
    · iapply (Entails.of_eq ((pointsTo_congr (ℓ := oLoc d) (q := fullShare) (row_sums d L (m (pLoc d)) (m (yLoc d)) (m (zLoc d)) g hg)).trans (pts_oRow (F := F) d L _)))
      iexact Ho
  isplitl [Hb Hc Ha Hu Hv Hbufs]
  · isplitl [Hb]; · iexact Hb
    isplitl [Hc]; · iexact Hc
    isplitl [Ha]; · iexact Ha
    isplitl [Hu]; · iexact Hu
    isplitl [Hv]; · iexact Hv
    iexact Hbufs
  isplitl [Hr0 Hr1 Hr2 Hs0 Hs1 Hsems]
  · isplitl [Hr0]; · iexact Hr0
    isplitl [Hr1]; · iexact Hr1
    isplitl [Hr2]; · iexact Hr2
    isplitl [Hs0]; · iexact Hs0
    isplitl [Hs1]; · iexact Hs1
    iexact Hsems
  iexists W'; isplitr
  swap; · iexact HO
  ipureintro
  exact fun p hp => (hW' p hp).imp_right Or.inl

theorem defs₀_vector (c : Fin τ.nSC) (s : Fin τ.nSub) :
    defs₀ (F := F) (.scVector c s) 0 ()
      = SparseCore.onTile hcore0 hsub0 (fun c s => cc0__sc_partial_sums (coordsV c s)
          pV (Memref.isWhole_whole _) yV (Memref.isWhole_whole _) zV (Memref.isWhole_whole _) oV (Memref.isWhole_whole _)
            bV (Memref.isWhole_whole _) cV (Memref.isWhole_whole _) aV (Memref.isWhole_whole _) uV (Memref.isWhole_whole _) vV (Memref.isWhole_whole _)
            cc0_scratch5 cc0_scratch6 cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

/-! ## The split and the join -/

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem ins_subs (d : Dev nD) (c : Fin 2) : (insAt m d (cq c) : sProp 𝕄) = bigSep Finset.univ fun i : Fin 16 => insAt m d (tq c i) := by
  unfold insAt
  rw [bigSep_sep', bigSep_sep', ← Transfers.pointsTo_deal Finset.univ ⟨0, Finset.mem_univ _⟩, ← Transfers.pointsTo_deal Finset.univ ⟨0, Finset.mem_univ _⟩,
    ← Transfers.pointsTo_deal Finset.univ ⟨0, Finset.mem_univ _⟩]
theorem ins_cores (d : Dev nD) : (insAt m d fullShare : sProp 𝕄) = bigSep Finset.univ fun c : Fin 2 => insAt m d (cq c) := by
  unfold insAt
  rw [bigSep_sep', bigSep_sep', ← Transfers.pointsTo_deal Finset.univ ⟨0, Finset.mem_univ _⟩, ← Transfers.pointsTo_deal Finset.univ ⟨0, Finset.mem_univ _⟩,
    ← Transfers.pointsTo_deal Finset.univ ⟨0, Finset.mem_univ _⟩]
theorem rows_subs (d : Dev nD) (c : Fin 2) (f : Buf (Elt F) (oLoc d)) :
    (oLoc d ↦[coreSet c]{fullShare} f : sProp 𝕄) = bigSep Finset.univ fun i : Fin 16 => oLoc d ↦[rowSet c i]{fullShare} f := by
  rw [coreSet_eq c]
  exact pointsTo_biUnion Finset.univ (ℓ := oLoc d) (rowSet c) (rows_disjoint c)
theorem rows_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint]
  exact congrArg (fun S => (oLoc d ↦[S]{fullShare} f : sProp 𝕄)) univ_eq_cores

theorem vecSplit : (K (F := F)).VecSplit' (P m) 0 := by
  intro d c
  show iprop(insAt m d (cq (Fin.cast nCore_zero c)) ∗ oLoc d ↦[coreSet (Fin.cast nCore_zero c)]{fullShare} m (oLoc d)) ⊢ |={Set.univ}=> iprop(
      (bigSep Finset.univ fun i : Fin ((K (F := F)).nSub 0) => iprop(insAt m d (tq (Fin.cast nCore_zero c) (Fin.cast nSub_zero i))
        ∗ oLoc d ↦[rowSet (Fin.cast nCore_zero c) (Fin.cast nSub_zero i)]{fullShare} m (oLoc d)))
      ∗ ((bigSep Finset.univ fun i : Fin ((K (F := F)).nSub 0) => iprop(insAt m d (tq (Fin.cast nCore_zero c) (Fin.cast nSub_zero i))
        ∗ oLoc d ↦[rowSet (Fin.cast nCore_zero c) (Fin.cast nSub_zero i)]{fullShare} sumsOf m d))
          -∗ iprop(insAt m d (cq (Fin.cast nCore_zero c)) ∗ oLoc d ↦[coreSet (Fin.cast nCore_zero c)]{fullShare} sumsOf m d)))
  generalize Fin.cast nCore_zero c = c
  rw [bigSep_subs (F := F) (fun i => iprop(insAt m d (tq c i) ∗ oLoc d ↦[rowSet c i]{fullShare} m (oLoc d))),
    bigSep_subs (F := F) (fun i => iprop(insAt m d (tq c i) ∗ oLoc d ↦[rowSet c i]{fullShare} sumsOf m d)),
    bigSep_sep' _ (fun i => insAt m d (tq c i)), bigSep_sep' _ (fun i => insAt m d (tq c i)), ← ins_subs, ← rows_subs, ← rows_subs]
  iintro H; imodintro
  isplitl [H]; · iexact H
  iintro H; iexact H

end Cert.Proof.Loss
-- ==== Proof.Region1.lean ====
module
public import proofs.«01_k».proof.Proof.Split
public import Idealize.ShloMosaic.Lib.Pipeline.Value
public import Idealize.ShloMosaic.Lib.Pipeline.Frame
public import Idealize.ShloMosaic.Lib.Pipeline.FrameBody
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

open Idealize.ShloMosaic.TcCoe
open Idealize.ShloMosaic.Pipeline (Dat Cfg Window BodyObligation cellOf)

/-! ## The first staged region: column sums of the first 14336 rows, weighted three ways -/

/-- The first three rows of an eight-row buffer. -/
def top (g : S8x4096.Idx → F .f32) : S3x4096.Idx → F .f32 := fun x => g (ix2 ⟨(x 0).val, (x 0).isLt.trans (by decide)⟩ (x 1))
/-- Three rows of zero. -/
def zero3 : S3x4096.Idx → F .f32 := fun _ => Scalar.ofBits .f32 0x00000000#32

theorem top_readAt (v : View sig Kind.tc Space.vmem S8x4096 EltTy.f32) (g : v.ty.Contents (Elt F)) (inb : ∀ a, (![0, 0] : Fin 2 → ℕ) a + S3x4096.size a ≤ S8x4096.size a) :
    v.readAt (Elt F) (Rect.unit (s := S8x4096) ![0, 0] S3x4096.size inb).toLoadRect g = top (v.read (Elt F) g) := by
  funext x
  rw [View.readAt_apply]
  refine congrArg (v.read (Elt F) g) (funext fun a => ?_)
  match a with
  | ⟨0, _⟩ => exact Fin.ext (show 0 + 1 * (x 0).val = (x 0).val by omega)
  | ⟨1, _⟩ => exact Fin.ext (show 0 + 1 * (x 1).val = (x 1).val by omega)

theorem top_store (v : View sig Kind.tc Space.vmem S8x4096 EltTy.f32) (g : v.ty.Contents (Elt F)) (inb : ∀ a, (![0, 0] : Fin 2 → ℕ) a + S3x4096.size a ≤ S8x4096.size a)
    (w : S3x4096.Idx → F .f32) (L : List (View.Piece (Elt F) S8x4096 .f32)) :
    top (v.read (Elt F) (v.writes (Elt F) g ((⟨Rect.unit (s := S8x4096) ![0, 0] S3x4096.size inb, w⟩ : View.Piece (Elt F) S8x4096 .f32) :: L))) = w := by
  funext x
  exact View.read_writes_cons_unit_of_mem v g inb w L _ x rfl fun a => by
    match a with
    | ⟨0, _⟩ => exact (Nat.zero_add _).symm
    | ⟨1, _⟩ => exact (Nat.zero_add _).symm

theorem whole_store (v : View sig Kind.tc Space.vmem S3x4096 EltTy.f32) (g : v.ty.Contents (Elt F)) (inb : ∀ a, (![0, 0] : Fin 2 → ℕ) a + S3x4096.size a ≤ S3x4096.size a) (w : S3x4096.Idx → F .f32) :
    v.read (Elt F) (v.writes (Elt F) g [(⟨Rect.unit (s := S3x4096) ![0, 0] S3x4096.size inb, w⟩ : View.Piece (Elt F) S3x4096 .f32)]) = w := by
  funext x
  exact View.read_writes_cons_unit_of_mem v g inb w [] x x rfl fun a => by
    match a with
    | ⟨0, _⟩ => exact (Nat.zero_add _).symm
    | ⟨1, _⟩ => exact (Nat.zero_add _).symm

theorem owns_isWhole (c : Thread nD τ) {sp : Space} {S : Shape} {e : EltTy} (M : Memref sig c.2.kind sp S e) (h : M.IsWhole) (X : S.Idx → Elt F e) :
    (owns c M fullShare X : sProp 𝕄) = iprop(∃ f, ⌜M.view.read (Elt F) f = X⌝ ∗ (M.view.loc c ↦{fullShare} f)) := by
  unfold owns; rw [h.set_eq_univ]

theorem first_iff : ∀ t : Fin 14, Scalar.cmpi .ne (Scalar.extui (Scalar.cmpi .eq (BitVec.ofNat 32 t.val) 0#32) : BitVec 32) 0#32 = 1#1 ↔ t.val = 0 := by decide
theorem last_iff : ∀ i : grid1.Coords, k1_cond2 i = 1#1 ↔ (i 0).val = 13 := by
  intro i
  have h : ∀ t : Fin 14, Scalar.cmpi .ne (Scalar.extui (Scalar.cmpi .eq (BitVec.ofNat 32 t.val) 13#32) : BitVec 32) 0#32 = 1#1 ↔ t.val = 13 := by decide
  exact h (i 0)

/-- The point after its initialization: the three rows gain their sums, and the last point copies them out. -/
def sumsProg (i : grid1.Coords) (M1 : Memref sig .tc .vmem S1024x4096 .f32) (M2 M3 : Memref sig .tc .vmem S1024 .f32) (M4 : Memref sig .tc .vmem S3x4096 .f32) (M5 : Memref sig .tc .vmem S8x4096 .f32) :
    Prog (TpuEff nD τ sig (Elt F) Λ₀ .tc) PUnit := do
  let v3 : Vec F S1024x4096 .f32 ← Prog.lift (.load M1 (Rect.unit (s := S1024x4096) ![0, 0] S1024x4096.size inb_S1024x4096_S1024x4096_0_0).toLoadRect (View.loadsAt_vmem h_S1024x4096))
  let v4 : Vec F S1024 .f32 ← Prog.lift (.load M2 (Rect.unit (s := S1024) ![0] S1024.size inb_S1024_S1024_0).toLoadRect (View.loadsAt_vmem h_S1024))
  let v5 : Vec F S1024 .f32 ← Prog.lift (.load M3 (Rect.unit (s := S1024) ![0] S1024.size inb_S1024_S1024_0).toLoadRect (View.loadsAt_vmem h_S1024))
  let v19 : Vec F S3x4096 .f32 ← Prog.lift (.load M5 (Rect.unit (s := S8x4096) ![0, 0] S3x4096.size inb_S8x4096_S3x4096_0_0).toLoadRect (View.loadsAt_vmem h_S3x4096))
  let _v22 : Vec F S3x4096 .f32 ← Prog.lift (.load M5 (Rect.unit (s := S8x4096) ![0, 0] S3x4096.size inb_S8x4096_S3x4096_0_0).toLoadRect (View.loadsAt_vmem h_S3x4096))
  Prog.lift (.store M5 (Rect.unit (s := S8x4096) ![0, 0] S3x4096.size inb_S8x4096_S3x4096_0_0) (k1_pay2 v3 v4 v5 v19) Finset.univ (View.stores_vmem_bits_univ h_S3x4096 rfl) (.inl rfl))
  if _h : k1_cond2 i = 1#1 then do
    let v28 : Vec F S3x4096 .f32 ← Prog.lift (.load M5 (Rect.unit (s := S8x4096) ![0, 0] S3x4096.size inb_S8x4096_S3x4096_0_0).toLoadRect (View.loadsAt_vmem h_S3x4096))
    let _v29 : Vec F S3x4096 .f32 ← Prog.lift (.load M4 (Rect.unit (s := S3x4096) ![0, 0] S3x4096.size inb_S3x4096_S3x4096_0_0).toLoadRect (View.loadsAt_vmem h_S3x4096))
    Prog.lift (.store M4 (Rect.unit (s := S3x4096) ![0, 0] S3x4096.size inb_S3x4096_S3x4096_0_0) v28 Finset.univ (View.stores_vmem_bits_univ h_S3x4096 rfl) (.inl rfl))
    pure ⟨⟩
  else do
    pure ⟨⟩
  pure ⟨⟩

theorem sumsProg_run (c : Dev nD) (i : grid1.Coords) (M1 : Memref sig .tc .vmem S1024x4096 .f32) (M2 : Memref sig .tc .vmem S1024 .f32)
    (M3 : Memref sig .tc .vmem S1024 .f32) (M4 : Memref sig .tc .vmem S3x4096 .f32) (M5 : Memref sig .tc .vmem S8x4096 .f32)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) :
    iprop((M1.view.loc (c : Thread nD τ) ↦{fullShare} f1) ∗ (M2.view.loc (c : Thread nD τ) ↦{fullShare} f2) ∗ (M3.view.loc (c : Thread nD τ) ↦{fullShare} f3)
        ∗ (M4.view.loc (c : Thread nD τ) ↦{fullShare} f4) ∗ (M5.view.loc (c : Thread nD τ) ↦{fullShare} f5) : sProp 𝕄)
      ⊢ wp frame (wpE (defs₀ (F := F)) 𝒱₀ (c : Thread nD τ) none) Set.univ (sumsProg i M1 M2 M3 M4 M5) fun _ =>
        iprop((M1.view.loc (c : Thread nD τ) ↦{fullShare} f1) ∗ (M2.view.loc (c : Thread nD τ) ↦{fullShare} f2) ∗ (M3.view.loc (c : Thread nD τ) ↦{fullShare} f3)
          ∗ ∃ g : Buf (Elt F) (M5.view.loc (c : Thread nD τ)), ⌜top (M5.view.read (Elt F) g) = k1_pay2 (M1.view.read (Elt F) f1) (M2.view.read (Elt F) f2) (M3.view.read (Elt F) f3)
                (top (M5.view.read (Elt F) f5))⌝ ∗ (M5.view.loc (c : Thread nD τ) ↦{fullShare} g)
          ∗ ∃ g4 : Buf (Elt F) (M4.view.loc (c : Thread nD τ)), ⌜if (i 0).val = 13 then M4.view.read (Elt F) g4 = top (M5.view.read (Elt F) g) else g4 = f4⌝ ∗ (M4.view.loc (c : Thread nD τ) ↦{fullShare} g4)) := by
  have hz2 : (![0, 0] : Fin 2 → ℕ) = fun _ => 0 := by funext a; fin_cases a <;> rfl
  have hz1 : (![0] : Fin 1 → ℕ) = fun _ => 0 := by funext a; fin_cases a; rfl
  have ld1 : ∀ f, M1.view.readAt (Elt F) (Rect.unit (s := S1024x4096) ![0, 0] S1024x4096.size inb_S1024x4096_S1024x4096_0_0).toLoadRect f = M1.view.read (Elt F) f := fun f => View.ld_unit_zero (S := S1024x4096) hz2 _ _
  have ld2 : ∀ f, M2.view.readAt (Elt F) (Rect.unit (s := S1024) ![0] S1024.size inb_S1024_S1024_0).toLoadRect f = M2.view.read (Elt F) f := fun f => View.ld_unit_zero (S := S1024) hz1 _ _
  have ld3 : ∀ f, M3.view.readAt (Elt F) (Rect.unit (s := S1024) ![0] S1024.size inb_S1024_S1024_0).toLoadRect f = M3.view.read (Elt F) f := fun f => View.ld_unit_zero (S := S1024) hz1 _ _
  unfold sumsProg
  iintro ⟨H1, H2, H3, H4, H5⟩
  by_cases hl : (i 0).val = 13
  · have hc := (last_iff i).2 hl
    simp only [dif_pos hc, if_pos hl]
    sl_exec
    sl_step
    isplitl [H1]; · iexact H1
    isplitl [H2]; · iexact H2
    isplitl [H3]; · iexact H3
    iexists _; isplitr; swap
    · isplitl [H5]; · iexact H5
      iexists _; isplitr; swap
      · iexact H4
      · ipureintro
        sl_unfold_words
        rw [top_store]
        exact (whole_store M4.view f4 inb_S3x4096_S3x4096_0_0 _).trans (View.readCov_cons_toLoadRect M5.view (Rect.unit (s := S8x4096) ![0, 0] S3x4096.size inb_S8x4096_S3x4096_0_0) _ [])
    · ipureintro
      sl_unfold_words
      rw [top_store, top_readAt]
  · have hc : ¬ k1_cond2 i = 1#1 := fun h => hl ((last_iff i).1 h)
    simp only [dif_neg hc, if_neg hl]
    sl_exec
    sl_step
    isplitl [H1]; · iexact H1
    isplitl [H2]; · iexact H2
    isplitl [H3]; · iexact H3
    iexists _; isplitr; swap
    · isplitl [H5]; · iexact H5
      iexists _; isplitr; swap
      · iexact H4
      · ipureintro; rfl
    · ipureintro
      sl_unfold_words
      rw [top_store, top_readAt]

/-- One point of the region: the three accumulator rows gain the block's three weighted column sums, starting from
    zero at the first point; the last point copies them out. -/
theorem sums_run (c : Dev nD) (i : grid1.Coords) (M1 : Memref sig .tc .vmem S1024x4096 .f32) (h1 : M1.IsWhole) (M2 : Memref sig .tc .vmem S1024 .f32) (h2 : M2.IsWhole)
    (M3 : Memref sig .tc .vmem S1024 .f32) (h3 : M3.IsWhole) (M4 : Memref sig .tc .vmem S3x4096 .f32) (h4 : M4.IsWhole) (M5 : Memref sig .tc .vmem S8x4096 .f32) (h5 : M5.IsWhole)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) :
    iprop((M1.view.loc (c : Thread nD τ) ↦{fullShare} f1) ∗ (M2.view.loc (c : Thread nD τ) ↦{fullShare} f2) ∗ (M3.view.loc (c : Thread nD τ) ↦{fullShare} f3)
        ∗ (M4.view.loc (c : Thread nD τ) ↦{fullShare} f4) ∗ (M5.view.loc (c : Thread nD τ) ↦{fullShare} f5) : sProp 𝕄)
      ⊢ wp frame (wpE (defs₀ (F := F)) 𝒱₀ (c : Thread nD τ) none) Set.univ (cc1__tc_sums_body i M1 h1 M2 h2 M3 h3 M4 h4 M5 h5) fun _ =>
        iprop((M1.view.loc (c : Thread nD τ) ↦{fullShare} f1) ∗ (M2.view.loc (c : Thread nD τ) ↦{fullShare} f2) ∗ (M3.view.loc (c : Thread nD τ) ↦{fullShare} f3)
          ∗ ∃ g : Buf (Elt F) (M5.view.loc (c : Thread nD τ)), ⌜top (M5.view.read (Elt F) g) = k1_pay2 (M1.view.read (Elt F) f1) (M2.view.read (Elt F) f2) (M3.view.read (Elt F) f3)
                (if (i 0).val = 0 then zero3 else top (M5.view.read (Elt F) f5))⌝ ∗ (M5.view.loc (c : Thread nD τ) ↦{fullShare} g)
          ∗ ∃ g4 : Buf (Elt F) (M4.view.loc (c : Thread nD τ)), ⌜if (i 0).val = 13 then M4.view.read (Elt F) g4 = top (M5.view.read (Elt F) g) else g4 = f4⌝ ∗ (M4.view.loc (c : Thread nD τ) ↦{fullShare} g4)) := by
  have hbody : cc1__tc_sums_body (F := F) i M1 h1 M2 h2 M3 h3 M4 h4 M5 h5
      = (if _h : Scalar.cmpi .ne (Scalar.extui (Scalar.cmpi .eq (BitVec.ofNat 32 (i 0).val) 0#32) : BitVec 32) 0#32 = 1#1 then do
            let _v29 : Vec F S8x4096 .f32 ← Prog.lift (.load M5 (Rect.unit (s := S8x4096) ![0, 0] S8x4096.size inb_S8x4096_S8x4096_0_0).toLoadRect (View.loadsAt_vmem h_S8x4096))
            Prog.lift (.store M5 (Rect.unit (s := S8x4096) ![0, 0] S8x4096.size inb_S8x4096_S8x4096_0_0) (k1_pay1 (F := F)) Finset.univ (View.stores_vmem_bits_univ h_S8x4096 rfl) (.inl rfl))
            sumsProg i M1 M2 M3 M4 M5
          else sumsProg i M1 M2 M3 M4 M5) := rfl
  rw [hbody]
  by_cases hf : (i 0).val = 0
  · rw [dif_pos ((first_iff (i 0)).2 hf), if_pos hf]
    have hrest := sumsProg_run c i M1 M2 M3 M4 M5 f1 f2 f3 f4
    generalize sumsProg (F := F) i M1 M2 M3 M4 M5 = rest at hrest ⊢
    iintro ⟨H1, H2, H3, H4, H5⟩
    sl_exec
    rw [← show top (M5.view.read (Elt F) (M5.view.writes (Elt F) f5 [⟨Rect.unit (s := S8x4096) ![0, 0] S8x4096.size inb_S8x4096_S8x4096_0_0, k1_pay1 (F := F)⟩])) = zero3 from
      funext fun x => View.read_writes_cons_unit_of_mem M5.view f5 inb_S8x4096_S8x4096_0_0 (k1_pay1 (F := F)) [] _ (ix2 ⟨(x 0).val, (x 0).isLt.trans (by decide)⟩ (x 1)) rfl fun a => by
        match a with
        | ⟨0, _⟩ => exact (Nat.zero_add _).symm
        | ⟨1, _⟩ => exact (Nat.zero_add _).symm]
    iapply (hrest _)
    isplitl [H1]; · iexact H1
    isplitl [H2]; · iexact H2
    isplitl [H3]; · iexact H3
    isplitl [H4]; · iexact H4
    iexact H5
  · rw [dif_neg fun h => hf ((first_iff (i 0)).1 h), if_neg hf]
    exact sumsProg_run c i M1 M2 M3 M4 M5 f1 f2 f3 f4 f5

/-! ## The region's proof data -/

section Data

variable (V : (c : Dev nD) → (b : Ref sig .tc) → Buf (Elt F) ((c : Thread nD τ).loc b))

/-- The block of the table, of the targets and of the predictions that point `t` works on. -/
abbrev pBlk (c : Dev nD) (t : Fin cfg1.N) : S1024x4096.Idx → F .f32 := ((cfg1.win 0).blk t).view.read (Elt F) (V c main_arg0)
abbrev yBlk (c : Dev nD) (t : Fin cfg1.N) : S1024.Idx → F .f32 := ((cfg1.win 1).blk t).view.read (Elt F) (V c main_arg1)
abbrev zBlk (c : Dev nD) (t : Fin cfg1.N) : S1024.Idx → F .f32 := ((cfg1.win 2).blk t).view.read (Elt F) (V c main_arg2)

/-- The three sums over the first `n` blocks. -/
def tcSums (c : Dev nD) : ℕ → S3x4096.Idx → F .f32
  | 0 => zero3
  | n + 1 => if h : n < cfg1.N then k1_pay2 (pBlk V c ⟨n, h⟩) (yBlk V c ⟨n, h⟩) (zBlk V c ⟨n, h⟩) (tcSums c n) else tcSums c n

/-- Between points: the scratch buffer's three rows hold the sums so far; the buffers no window stages are held. -/
def Φ1 (c : Dev nD) (n : ℕ) : sProp 𝕄 :=
  iprop((∃ f : Buf (Elt F) ((c : Thread nD τ).loc cc1_scratch0), ⌜n ≠ 0 → top f = tcSums V c n⌝ ∗ ((c : Thread nD τ).loc cc1_scratch0 ↦{fullShare} f))
    ∗ (∃ f : Buf (Elt F) ((c : Thread nD τ).loc cc2_stg0_0), (c : Thread nD τ).loc cc2_stg0_0 ↦{fullShare} f)
    ∗ (∃ f : Buf (Elt F) ((c : Thread nD τ).loc cc2_stg1_0), (c : Thread nD τ).loc cc2_stg1_0 ↦{fullShare} f)
    ∗ (∃ f : Buf (Elt F) ((c : Thread nD τ).loc cc2_stg2_0), (c : Thread nD τ).loc cc2_stg2_0 ↦{fullShare} f)
    ∗ (∃ f : Buf (Elt F) ((c : Thread nD τ).loc cc2_stg3_0), (c : Thread nD τ).loc cc2_stg3_0 ↦{fullShare} f)
    ∗ (∃ f : Buf (Elt F) ((c : Thread nD τ).loc cc2_stg4_0), (c : Thread nD τ).loc cc2_stg4_0 ↦{fullShare} f))

/-- The waits a TensorCore may have recorded when its call of the SparseCores is over. -/
def waited (c : Dev nD) : Set (SemLoc sig × HIx 1) := {p | (K (F := F)).lev (SparseCore.T c, p.1) p.2 ≤ 8}

def dat1 (c : Dev nD) : Dat τ (Elt F) (HIx 1) ℕ UU ℕ cfg1 c where
  A w := V c (Pipeline.arrRef spec1 w)
  after w t := match w with
    | ⟨0, _⟩ => pBlk V c t
    | ⟨1, _⟩ => yBlk V c t
    | ⟨2, _⟩ => zBlk V c t
    | ⟨3, _⟩ => tcSums V c (t.val + 1)
  Φ t := Φ1 V c t.val
  q _ := fullShare
  owed _ := 0
  recorded _ := waited (F := F) c

theorem before1_0 (c : Dev nD) (t : Fin cfg1.N) (d) : (dat1 V c).before 0 t d = pBlk V c t := by
  unfold Dat.before; rw [if_pos (fetch1_0 t)]; rfl
theorem before1_1 (c : Dev nD) (t : Fin cfg1.N) (d) : (dat1 V c).before 1 t d = yBlk V c t := by
  unfold Dat.before; rw [if_pos (fetch1_1 t)]; rfl
theorem before1_2 (c : Dev nD) (t : Fin cfg1.N) (d) : (dat1 V c).before 2 t d = zBlk V c t := by
  unfold Dat.before; rw [if_pos (fetch1_2 t)]; rfl

theorem coords1 : ∀ t : Fin cfg1.N, (cfg1.grid.coords t 0).val = t.val := by
  intro t
  rcases fin_N1 t with h | h | h | h | h | h | h | h | h | h | h | h | h | h <;> subst h <;> decide

theorem hst1_0 (t : Fin cfg1.N) : (st1_0 t).IsWhole := hstage1_0 ((cfg1.slots t 0).cast nbuf1_0)
theorem hst1_1 (t : Fin cfg1.N) : (st1_1 t).IsWhole := hstage1_1 ((cfg1.slots t 1).cast nbuf1_1)
theorem hst1_2 (t : Fin cfg1.N) : (st1_2 t).IsWhole := hstage1_2 ((cfg1.slots t 2).cast nbuf1_2)
theorem hst1_3 (t : Fin cfg1.N) : (st1_3 t).IsWhole := hstage1_3 ((cfg1.slots t 3).cast nbuf1_3)

theorem body1 (c : Dev nD) : BodyObligation (dat1 V c) (defs₀ (F := F)) 𝒱₀ (none : HIx 1) Set.univ := fun t => by
  rw [bigSep_W1, bigSep_W1]
  rw [show (dat1 V c).Φ t.castSucc = Φ1 V c t.val from rfl, show (dat1 V c).Φ t.succ = Φ1 V c (t.val + 1) from rfl,
    show (dat1 V c).owesAt none t.succ = (dat1 V c).owesAt none t.castSucc from rfl]
  unfold Φ1
  have hid0 : cfg1.idle 0 (cfg1.grid.coords t) = false := rfl
  have hid1 : cfg1.idle 1 (cfg1.grid.coords t) = false := rfl
  have hid2 : cfg1.idle 2 (cfg1.grid.coords t) = false := rfl
  have hid : cfg1.idle 3 (cfg1.grid.coords t) = !(k1_cond2 (cfg1.grid.coords t) == 1#1) := rfl
  have hN : cfg1.N = 14 := N_1
  have ht : (cfg1.grid.coords t 0).val = t.val := coords1 t
  simp only [hid0, hid1, hid2]
  iintro ⟨⟨⟨%f5, %h5, H5⟩, Hrest⟩, Howes, ⟨%d1, H1⟩, ⟨%d2, H2⟩, ⟨%d3, H3⟩, ⟨%d4, H4⟩⟩
  ihave H1' := (Entails.of_eq (owns_isWhole _ _ (hst1_0 t) _)) $$ H1
  ihave H2' := (Entails.of_eq (owns_isWhole _ _ (hst1_1 t) _)) $$ H2
  ihave H3' := (Entails.of_eq (owns_isWhole _ _ (hst1_2 t) _)) $$ H3
  ihave H4' := (Entails.of_eq (owns_isWhole _ _ (hst1_3 t) _)) $$ H4
  icases H1' with ⟨%f1, %e1, H1⟩
  icases H2' with ⟨%f2, %e2, H2⟩
  icases H3' with ⟨%f3, %e3, H3⟩
  icases H4' with ⟨%f4, %e4, H4⟩
  rw [before1_0] at e1
  rw [before1_1] at e2
  rw [before1_2] at e3
  rw [show (defs₀ (F := F)) .tc cfg1.body (cfg1.bodyArgs t (cfg1.slots t)) = bodyAt1 t from rfl]
  iapply wp_wand_r
  isplitl [H1 H2 H3 H4 H5]
  · iapply (sums_run c (grid1.coords t) _ _ _ _ _ _ _ _ _ _ f1 f2 f3 f4 f5)
    isplitl [H1]; · iexact H1
    isplitl [H2]; · iexact H2
    isplitl [H3]; · iexact H3
    isplitl [H4]; · iexact H4
    iexact H5
  iintro %_ ⟨H1, H2, H3, %g, %hg, H5, %g4, %hg4, H4⟩
  have hS : top g = tcSums V c (t.val + 1) := by
    have hlt : t.val < cfg1.N := t.isLt
    rw [tcSums, dif_pos hlt]
    refine hg.trans ?_
    rw [e1, e2, e3]
    refine congrArg _ ?_
    rw [show (grid1.coords t 0).val = t.val from ht]
    by_cases h0 : t.val = 0
    · rw [if_pos h0, h0]; rfl
    · rw [if_neg h0]; exact h5 h0
  isplitl [H5 Hrest]
  · isplitl [H5]
    · iexists _; isplitr; swap
      · iexact H5
      · ipureintro; exact fun _ => hS
    · iexact Hrest
  isplitl [Howes]; · iexact Howes
  isplitl [H1]
  · iapply (Entails.of_eq (owns_isWhole (c : Thread nD τ) _ (hst1_0 t) (pBlk V c t)).symm)
    iexists f1; isplitr; swap; (· iexact H1); ipureintro; exact e1
  isplitl [H2]
  · iapply (Entails.of_eq (owns_isWhole (c : Thread nD τ) _ (hst1_1 t) (yBlk V c t)).symm)
    iexists f2; isplitr; swap; (· iexact H2); ipureintro; exact e2
  isplitl [H3]
  · iapply (Entails.of_eq (owns_isWhole (c : Thread nD τ) _ (hst1_2 t) (zBlk V c t)).symm)
    iexists f3; isplitr; swap; (· iexact H3); ipureintro; exact e3
  by_cases hl : t.val = 13
  · have hc : k1_cond2 (cfg1.grid.coords t) = 1#1 := (last_iff _).2 (ht.trans hl)
    rw [if_pos (show (grid1.coords t 0).val = 13 from ht.trans hl)] at hg4
    rw [hc] at hid
    rw [show idle1 3 (grid1.coords t) = false from hid]
    iapply (Entails.of_eq (owns_isWhole (c : Thread nD τ) _ (hst1_3 t) (tcSums V c (t.val + 1))).symm)
    iexists g4; isplitr; swap; (· iexact H4); ipureintro; exact hg4.trans hS
  · have hc : ¬ k1_cond2 (cfg1.grid.coords t) = 1#1 := fun h => hl (ht.symm.trans ((last_iff _).1 h))
    rw [if_neg (show ¬ (grid1.coords t 0).val = 13 from fun h => hl (ht.symm.trans h))] at hg4
    have hi : cfg1.idle 3 (cfg1.grid.coords t) = true := by rw [hid]; simpa using hc
    have hfl : (cfg1.win 3).flush t = false := by
      rw [Bool.eq_false_iff]
      intro h
      have := (flush1_3 t).1 h
      have := t.isLt
      omega
    rw [show idle1 3 (grid1.coords t) = true from hi, show (win1 3).flush t = false from hfl]
    iexists d4
    iapply (Entails.of_eq (owns_isWhole (c : Thread nD τ) _ (hst1_3 t) _).symm)
    iexists g4; isplitr; swap; (· iexact H4); ipureintro; rw [hg4]; exact e4

/-- The array the region writes, after it: the three sums over all fourteen blocks. -/
theorem out1 (c : Dev nD) : (dat1 V c).arrAt 3 cfg1.N = tcSums V c 14 := by
  have hN : cfg1.N = 14 := N_1
  refine (dat1 V c).arrAt_eq_of_cover 3 (tcSums V c 14) (fun t hf => ?_) fun i =>
    ⟨t1_13, (flush1_3 t1_13).mpr rfl, ?_⟩
  · have h13 : t.val = 13 := by have := (flush1_3 t).mp hf; have := t.isLt; omega
    obtain rfl : t = t1_13 := Fin.ext h13
    have hz' : (fun a => win1_3.index t1_13 a * main_v1.ty.shape.size a) = fun _ => 0 := funext fun a => by fin_cases a <;> decide
    exact (Memref.read_access_unit_zero (Elt F) main_v1 hz' (fun a => by rw [congrFun hz' a]; simp) (tcSums V c 14)).symm
  · show i ∈ ((View.whole main_v1).slice (win1_3.rect t1_13)).set
    rw [View.set_slice_whole, Rect.mem_set_unit]
    intro a
    have h0 : (i 0 : Nat) < 3 := (i 0).isLt
    have h1 : (i 1 : Nat) < 4096 := (i 1).isLt
    match a with
    | ⟨0, _⟩ => show win1_3.index t1_13 0 * win1_3.size 0 ≤ (i 0 : Nat) ∧ (i 0 : Nat) < win1_3.index t1_13 0 * win1_3.size 0 + win1_3.xsize (grid1.coords t1_13) 0
                rw [show win1_3.index t1_13 0 * win1_3.size 0 = 0 from by decide +kernel, show win1_3.xsize (grid1.coords t1_13) 0 = 3 from by decide +kernel]; omega
    | ⟨1, _⟩ => show win1_3.index t1_13 1 * win1_3.size 1 ≤ (i 1 : Nat) ∧ (i 1 : Nat) < win1_3.index t1_13 1 * win1_3.size 1 + win1_3.xsize (grid1.coords t1_13) 1
                rw [show win1_3.index t1_13 1 * win1_3.size 1 = 0 from by decide +kernel, show win1_3.xsize (grid1.coords t1_13) 1 = 4096 from by decide +kernel]; omega

end Data

end Cert.Proof.Loss
-- ==== Proof.Region2.lean ====
module
public import proofs.«01_k».proof.Proof.Region1
public import Idealize.ShloMosaic.Lib.Pipeline.RegionsLoop
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

open Idealize.ShloMosaic.TcCoe
open Idealize.ShloMosaic.Pipeline (Dat Cfg Window BodyObligation cellOf)

/-! ## The second staged region: the loss from the sums -/

/-- Row `r` of the first region's three. -/
def row3 (s : S3x4096.Idx → F .f32) (r : Fin 3) : S1x4096.Idx → F .f32 := fun x => s (ix2 r (x 1))

/-- The loss, as the kernel computes it from the tiles' sums `o`, the first region's sums `s`, the targets and the predictions. -/
def lossOf (o : S32x12288.Idx → F .f32) (s : S3x4096.Idx → F .f32) (y z : S16384.Idx → F .f32) : F .f32 :=
  k2_pay1 (k2_pay14 (k2_pay6 y) (k2_pay9 o (row3 s 1) y) (k2_pay11 o (row3 s 2) z))
    (k2_pay15 (k2_pay8 y) (k2_pay10 o (row3 s 0) (row3 s 1) y) (k2_pay12 o (row3 s 0) (row3 s 2)) (k2_pay13 z))

theorem row3_readAt (v : View sig Kind.tc Space.vmem S3x4096 EltTy.f32) (g : v.ty.Contents (Elt F)) (r : Fin 3) {off : Fin 2 → ℕ} (inb : ∀ a, off a + S1x4096.size a ≤ S3x4096.size a) (h : off = ![r.val, 0]) :
    v.readAt (Elt F) (Rect.unit (s := S3x4096) off S1x4096.size inb).toLoadRect g = row3 (v.read (Elt F) g) r := by
  subst h
  funext x
  rw [View.readAt_apply]
  refine congrArg (v.read (Elt F) g) (funext fun a => ?_)
  match a with
  | ⟨0, _⟩ => exact Fin.ext (by have h0 : (x 0).val < 1 := (x 0).isLt; show r.val + 1 * (x 0).val = r.val; omega)
  | ⟨1, _⟩ => exact Fin.ext (show 0 + 1 * (x 1).val = (x 1).val by omega)

theorem finish_run (c : Dev nD) (M0 : Memref sig .tc .vmem S3x4096 .f32) (h0 : M0.IsWhole) (M1 : Memref sig .tc .vmem S32x12288 .f32) (h1 : M1.IsWhole)
    (M2 : Memref sig .tc .vmem S16384 .f32) (h2 : M2.IsWhole) (M3 : Memref sig .tc .vmem S16384 .f32) (h3 : M3.IsWhole) (M4 : Memref sig .tc .smem S1 .f32) (h4 : M4.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) :
    iprop((M0.view.loc (c : Thread nD τ) ↦{fullShare} f0) ∗ (M1.view.loc (c : Thread nD τ) ↦{fullShare} f1) ∗ (M2.view.loc (c : Thread nD τ) ↦{fullShare} f2)
        ∗ (M3.view.loc (c : Thread nD τ) ↦{fullShare} f3) ∗ (M4.view.loc (c : Thread nD τ) ↦{fullShare} f4) : sProp 𝕄)
      ⊢ wp frame (wpE (defs₀ (F := F)) 𝒱₀ (c : Thread nD τ) none) Set.univ (cc2__finish_body M0 h0 M1 h1 M2 h2 M3 h3 M4 h4) fun _ =>
        iprop((M0.view.loc (c : Thread nD τ) ↦{fullShare} f0) ∗ (M1.view.loc (c : Thread nD τ) ↦{fullShare} f1) ∗ (M2.view.loc (c : Thread nD τ) ↦{fullShare} f2)
          ∗ (M3.view.loc (c : Thread nD τ) ↦{fullShare} f3)
          ∗ ∃ g : Buf (Elt F) (M4.view.loc (c : Thread nD τ)), ⌜M4.view.read (Elt F) g = fun _ => lossOf (M1.view.read (Elt F) f1) (M0.view.read (Elt F) f0) (M2.view.read (Elt F) f2) (M3.view.read (Elt F) f3)⌝
            ∗ (M4.view.loc (c : Thread nD τ) ↦{fullShare} g)) := by
  have hz2 : (![0, 0] : Fin 2 → ℕ) = fun _ => 0 := by funext a; fin_cases a <;> rfl
  have hz1 : (![0] : Fin 1 → ℕ) = fun _ => 0 := by funext a; fin_cases a; rfl
  have ld1 : ∀ f, M1.view.readAt (Elt F) (Rect.unit (s := S32x12288) ![0, 0] S32x12288.size inb_S32x12288_S32x12288_0_0).toLoadRect f = M1.view.read (Elt F) f := fun f => View.ld_unit_zero (S := S32x12288) hz2 _ _
  have ld2 : ∀ f, M2.view.readAt (Elt F) (Rect.unit (s := S16384) ![0] S16384.size inb_S16384_S16384_0).toLoadRect f = M2.view.read (Elt F) f := fun f => View.ld_unit_zero (S := S16384) hz1 _ _
  have ld3 : ∀ f, M3.view.readAt (Elt F) (Rect.unit (s := S16384) ![0] S16384.size inb_S16384_S16384_0).toLoadRect f = M3.view.read (Elt F) f := fun f => View.ld_unit_zero (S := S16384) hz1 _ _
  have hr0 : ∀ f, M0.view.readAt (Elt F) (Rect.unit (s := S3x4096) ![0, 0] S1x4096.size inb_S3x4096_S1x4096_0_0).toLoadRect f = row3 (M0.view.read (Elt F) f) 0 := fun f => row3_readAt M0.view f 0 _ rfl
  have hr1 : ∀ f, M0.view.readAt (Elt F) (Rect.unit (s := S3x4096) ![1, 0] S1x4096.size inb_S3x4096_S1x4096_1_0).toLoadRect f = row3 (M0.view.read (Elt F) f) 1 := fun f => row3_readAt M0.view f 1 _ rfl
  have hr2 : ∀ f, M0.view.readAt (Elt F) (Rect.unit (s := S3x4096) ![2, 0] S1x4096.size inb_S3x4096_S1x4096_2_0).toLoadRect f = row3 (M0.view.read (Elt F) f) 2 := fun f => row3_readAt M0.view f 2 _ rfl
  rw [cc2__finish_body_eq_skeleton]
  unfold cc2__finish_body_skel
  rw [k2_part1_eq_skeleton, k2_part2_eq_skeleton]
  unfold k2_part1_skel k2_part2_skel
  iintro ⟨H0, H1, H2, H3, H4⟩
  sl_exec
  sl_step
  isplitl [H0]; · iexact H0
  isplitl [H1]; · iexact H1
  isplitl [H2]; · iexact H2
  isplitl [H3]; · iexact H3
  iexists _; isplitr; swap
  · iexact H4
  · ipureintro
    sl_unfold_words
    funext x
    exact View.read_writes_cons_unit_of_mem M4.view f4 inb_S1_S1_0 _ [] x x rfl fun a => by
      match a with
      | ⟨0, _⟩ => exact (Nat.zero_add _).symm

/-! ## The region's proof data -/

section Data

variable (V : (c : Dev nD) → (b : Ref sig .tc) → Buf (Elt F) ((c : Thread nD τ).loc b))

/-- The region's result, from the arrays it is entered with. -/
def lossAt (c : Dev nD) : S1.Idx → F .f32 := fun _ => lossOf (V c main_v0) (V c main_v1) (V c main_arg1) (V c main_arg2)

def dat2 (c : Dev nD) : Dat τ (Elt F) (HIx 1) ℕ UU ℕ cfg2 c where
  A w := V c (Pipeline.arrRef spec2 w)
  after w _ := match w with
    | ⟨0, _⟩ => (V c main_v1 : S3x4096.Idx → F .f32)
    | ⟨1, _⟩ => (V c main_v0 : S32x12288.Idx → F .f32)
    | ⟨2, _⟩ => (V c main_arg1 : S16384.Idx → F .f32)
    | ⟨3, _⟩ => (V c main_arg2 : S16384.Idx → F .f32)
    | ⟨4, _⟩ => lossAt V c
  Φ _ := Pipeline.scopedRest (Ix := HIx 1) (Name := ℕ) (U := UU) (Lvl := ℕ) (Val := Elt F) spec2 c
  q _ := fullShare
  owed _ := 0
  recorded _ := waited (F := F) c

theorem before2_0 (c : Dev nD) (d) : (dat2 V c).before 0 t2_0 d = (V c main_v1 : S3x4096.Idx → F .f32) := by
  unfold Dat.before; rw [if_pos (fetch2_0 t2_0)]
  have hz' : (fun a => win2_0.index t2_0 a * main_v1.ty.shape.size a) = fun _ => 0 := funext fun a => by fin_cases a <;> decide
  exact Memref.read_access_unit_zero (Elt F) main_v1 hz' (fun a => by rw [congrFun hz' a]; simp) (V c main_v1)
theorem before2_1 (c : Dev nD) (d) : (dat2 V c).before 1 t2_0 d = (V c main_v0 : S32x12288.Idx → F .f32) := by
  unfold Dat.before; rw [if_pos (fetch2_1 t2_0)]
  have hz' : (fun a => win2_1.index t2_0 a * main_v0.ty.shape.size a) = fun _ => 0 := funext fun a => by fin_cases a <;> decide
  exact Memref.read_access_unit_zero (Elt F) main_v0 hz' (fun a => by rw [congrFun hz' a]; simp) (V c main_v0)
theorem before2_2 (c : Dev nD) (d) : (dat2 V c).before 2 t2_0 d = (V c main_arg1 : S16384.Idx → F .f32) := by
  unfold Dat.before; rw [if_pos (fetch2_2 t2_0)]
  have hz' : (fun a => win2_2.index t2_0 a * main_arg1.ty.shape.size a) = fun _ => 0 := funext fun a => by fin_cases a <;> decide
  exact Memref.read_access_unit_zero (Elt F) main_arg1 hz' (fun a => by rw [congrFun hz' a]; simp) (V c main_arg1)
theorem before2_3 (c : Dev nD) (d) : (dat2 V c).before 3 t2_0 d = (V c main_arg2 : S16384.Idx → F .f32) := by
  unfold Dat.before; rw [if_pos (fetch2_3 t2_0)]
  have hz' : (fun a => win2_3.index t2_0 a * main_arg2.ty.shape.size a) = fun _ => 0 := funext fun a => by fin_cases a <;> decide
  exact Memref.read_access_unit_zero (Elt F) main_arg2 hz' (fun a => by rw [congrFun hz' a]; simp) (V c main_arg2)

theorem body2 (c : Dev nD) : BodyObligation (dat2 V c) (defs₀ (F := F)) 𝒱₀ (none : HIx 1) Set.univ := fun t => by
  obtain rfl := fin_N2 t
  rw [bigSep_W2, bigSep_W2]
  simp only [owns_whole_eq]
  rw [show (dat2 V c).Φ t2_0.castSucc = (dat2 V c).Φ t2_0.succ from rfl,
    show (dat2 V c).owesAt none t2_0.succ = (dat2 V c).owesAt none t2_0.castSucc from rfl]
  iintro ⟨HΦ, Howes, ⟨%d0, %f0, %e0, H0⟩, ⟨%d1, %f1, %e1, H1⟩, ⟨%d2, %f2, %e2, H2⟩, ⟨%d3, %f3, %e3, H3⟩, ⟨%d4, %f4, %e4, H4⟩⟩
  rw [before2_0] at e0
  rw [before2_1] at e1
  rw [before2_2] at e2
  rw [before2_3] at e3
  rw [show (defs₀ (F := F)) .tc cfg2.body (cfg2.bodyArgs t2_0 (cfg2.slots t2_0)) = bodyAt2 t2_0 from rfl]
  iapply wp_wand_r
  isplitl [H0 H1 H2 H3 H4]
  · iapply (finish_run c _ _ _ _ _ _ _ _ _ _ f0 f1 f2 f3 f4)
    isplitl [H0]; · iexact H0
    isplitl [H1]; · iexact H1
    isplitl [H2]; · iexact H2
    isplitl [H3]; · iexact H3
    iexact H4
  iintro %_ ⟨H0, H1, H2, H3, %g, %hg, H4⟩
  isplitl [HΦ]; · iexact HΦ
  isplitl [Howes]; · iexact Howes
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  iexists _; isplitr; swap; (· iexact H4); ipureintro
  refine hg.trans ?_
  show _ = lossAt V c
  unfold lossAt
  rw [← e0, ← e1, ← e2, ← e3]
  rfl

theorem out2 (c : Dev nD) : (dat2 V c).arrAt 4 cfg2.N = lossAt V c := by
  refine (dat2 V c).arrAt_eq_of_cover 4 (lossAt V c) (fun t hf => ?_) fun i =>
    ⟨t2_0, flush2_4 t2_0, ?_⟩
  · obtain rfl := fin_N2 t
    have hz' : (fun a => win2_4.index t2_0 a * main_v2.ty.shape.size a) = fun _ => 0 := funext fun a => by fin_cases a <;> decide
    exact (Memref.read_access_unit_zero (Elt F) main_v2 hz' (fun a => by rw [congrFun hz' a]; simp) (lossAt V c)).symm
  · show i ∈ ((View.whole main_v2).slice (win2_4.rect t2_0)).set
    rw [View.set_slice_whole, Rect.mem_set_unit]
    intro a
    have h0 : (i 0 : Nat) < 1 := (i 0).isLt
    match a with
    | ⟨0, _⟩ => show win2_4.index t2_0 0 * win2_4.size 0 ≤ (i 0 : Nat) ∧ (i 0 : Nat) < win2_4.index t2_0 0 * win2_4.size 0 + win2_4.xsize (grid2.coords t2_0) 0
                rw [show win2_4.index t2_0 0 * win2_4.size 0 = 0 from by decide +kernel, show win2_4.xsize (grid2.coords t2_0) 0 = 1 from by decide +kernel]; omega

/-! ## The two regions over the arrays -/

abbrev adm : (p : Fin 2) → (pcfgs (F := F) p).Adm := fun p => (cfgs p).toPCfg_adm

/-- Both regions' data at one valuation of the arrays. -/
def pdats : (p : Fin 2) → (c : Dev nD) → Dat τ (Elt F) (HIx 1) ℕ UU ℕ (Pipeline.pin (pcfgs (F := F)) adm p) c
  | ⟨0, _⟩ => fun c => dat1 V c
  | ⟨1, _⟩ => fun c => dat2 V c

variable (Vp : (c : Dev nD) → (b : Ref sig .tc) → Buf (Elt F) ((c : Thread nD τ).loc b))

/-- The arrays at a valuation and the core owing nothing, with the waits it may have recorded. -/
def arraysAt (W : (c : Dev nD) → (b : Ref sig .tc) → Buf (Elt F) ((c : Thread nD τ).loc b)) (c : Dev nD) : sProp 𝕄 :=
  iprop(unscopedBufs c (W c) ∗ Pipeline.owesWithin c (0 : CellTallies nD τ sig (HIx 1)) (waited (F := F) c))

theorem waited_bound (cfg : Cfg sig Λ₀) (c : Dev nD) : waited (F := F) c ∪ cfg.waitPairs (none : HIx 1) ⊆ waited (F := F) c := by
  intro p hp
  rcases hp with h | ⟨w, s, h⟩
  · exact h
  · subst h; exact Nat.zero_le _

set_option backward.isDefEq.respectTransparency.types false in
def reg1 (hout : ∀ c, Vp c main_v1 = tcSums V c 14) (hne : ∀ c (b : Ref sig .tc), b ≠ main_v1 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ _ _ 0 fun _ _ => rfl
  pre := arraysAt V
  post := arraysAt Vp
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    unfold arraysAt
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono c _ (fun _ h => Or.inl h)); iexact HO
    isplitr; · iempintro
    iexact Hrest
  hin c := by
    rw [show (pdats V 0 c).Φ 0 = Φ1 V c 0 from rfl, show Pipeline.scopedRest (Ix := HIx 1) (Name := ℕ) (U := UU) (Lvl := ℕ) (Val := Elt F) (Pipeline.pin (pcfgs (F := F)) adm 0).spec c = _ from scopedRest1_eq c]
    unfold Φ1
    iintro ⟨-, -, ⟨%f, Hf⟩, Hr⟩
    isplitl [Hf]
    · iexists f; isplitr; · ipureintro; exact fun h => absurd rfl h
      iexact Hf
    iexact Hr
  hout c := by
    rw [Pipeline.ownSems0_none, show (pdats V 0 c).Φ (Fin.last _) = Φ1 V c cfg1.N from rfl, show Pipeline.scopedRest (Ix := HIx 1) (Name := ℕ) (U := UU) (Lvl := ℕ) (Val := Elt F) (Pipeline.pin (pcfgs (F := F)) adm 0).spec c = _ from scopedRest1_eq c]
    unfold Φ1
    iintro ⟨⟨%f, -, Hf⟩, Hr⟩
    isplitr; · iempintro
    isplitr; · iempintro
    isplitl [Hf]; · iexists f; iexact Hf
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_arg0 (by decide)).symm
        · exact ((pdats V 0 c).arrAt_in 1 rfl _).trans (hne c main_arg1 (by decide)).symm
        · exact ((pdats V 0 c).arrAt_in 2 rfl _).trans (hne c main_arg2 (by decide)).symm
        · exact (out1 V c).trans (hout c).symm)
      (fun b hb => hne c b fun h => hb (h ▸ Finset.mem_image.mpr ⟨3, Finset.mem_univ _, rfl⟩))
    unfold arraysAt
    iintro ⟨Ha, HO, -, Hrest⟩
    imodintro
    isplitl [Ha Hrest]
    · iapply hjoin; isplitl [Ha] <;> iassumption
    unfold Pipeline.Dat.owesAt
    iapply (Pipeline.owesWithin_mono c _ (waited_bound cfg1 c)); iexact HO

set_option backward.isDefEq.respectTransparency.types false in
def reg2 (hout : ∀ c, Vp c main_v2 = lossAt V c) (hne : ∀ c (b : Ref sig .tc), b ≠ main_v2 → Vp c b = V c b) :
    Pipeline.RegionSeg (pcfgs (F := F)) adm (pdats V) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ _ _ 1 fun _ _ => rfl
  pre := arraysAt V
  post := arraysAt Vp
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) launch2.win launch2.arr_whole c
      ((pdats V 1 c).share_full fun _ => rfl) (V c) fun _ => rfl
    unfold arraysAt
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt
      iapply (Pipeline.owesWithin_mono c _ (fun _ h => Or.inl h)); iexact HO
    isplitr; · iempintro
    iexact Hrest
  hin c := by
    rw [show (pdats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v1 (by decide)).symm
        · exact ((pdats V 1 c).arrAt_in 1 rfl _).trans (hne c main_v0 (by decide)).symm
        · exact ((pdats V 1 c).arrAt_in 2 rfl _).trans (hne c main_arg1 (by decide)).symm
        · exact ((pdats V 1 c).arrAt_in 3 rfl _).trans (hne c main_arg2 (by decide)).symm
        · exact (out2 V c).trans (hout c).symm)
      (fun b hb => hne c b fun h => hb (h ▸ Finset.mem_image.mpr ⟨4, Finset.mem_univ _, rfl⟩))
    unfold arraysAt
    iintro ⟨Ha, HO, -, Hrest⟩
    imodintro
    isplitl [Ha Hrest]
    · iapply hjoin; isplitl [Ha] <;> iassumption
    unfold Pipeline.Dat.owesAt
    iapply (Pipeline.owesWithin_mono c _ (waited_bound cfg2 c)); iexact HO

end Data

end Cert.Proof.Loss
-- ==== Proof.Launch.lean ====
module
public import proofs.«01_k».proof.Proof.Region2
@[expose] public section
noncomputable section
namespace Cert.Proof.Loss
open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

-- the kernel's memrefs as the body table passes them
local notation "pV" => (Memref.whole Cert.KernelIdeal.main_arg0_scv : Memref Cert.KernelIdeal.sig Kind.scVector Space.hbm Cert.KernelIdeal.S16384x4096 EltTy.f32)
local notation "yV" => (Memref.whole Cert.KernelIdeal.main_arg1_scv : Memref Cert.KernelIdeal.sig Kind.scVector Space.hbm Cert.KernelIdeal.S16384 EltTy.f32)
local notation "zV" => (Memref.whole Cert.KernelIdeal.main_arg2_scv : Memref Cert.KernelIdeal.sig Kind.scVector Space.hbm Cert.KernelIdeal.S16384 EltTy.f32)
local notation "oV" => (Memref.whole Cert.KernelIdeal.main_v0_scv : Memref Cert.KernelIdeal.sig Kind.scVector Space.hbm Cert.KernelIdeal.S32x12288 EltTy.f32)
local notation "bV" => (Memref.whole Cert.KernelIdeal.cc0_scratch0 : Memref Cert.KernelIdeal.sig Kind.scVector Space.vmem Cert.KernelIdeal.S8x4096 EltTy.f32)
local notation "cV" => (Memref.whole Cert.KernelIdeal.cc0_scratch1 : Memref Cert.KernelIdeal.sig Kind.scVector Space.vmem Cert.KernelIdeal.S8x4096 EltTy.f32)
local notation "aV" => (Memref.whole Cert.KernelIdeal.cc0_scratch2 : Memref Cert.KernelIdeal.sig Kind.scVector Space.vmem Cert.KernelIdeal.S12288 EltTy.f32)
local notation "uV" => (Memref.whole Cert.KernelIdeal.cc0_scratch3 : Memref Cert.KernelIdeal.sig Kind.scVector Space.vmem Cert.KernelIdeal.S80 EltTy.f32)
local notation "vV" => (Memref.whole Cert.KernelIdeal.cc0_scratch4 : Memref Cert.KernelIdeal.sig Kind.scVector Space.vmem Cert.KernelIdeal.S80 EltTy.f32)

open Idealize.ShloMosaic.TcCoe

variable (m : (ℓ : Loc nD τ sig) → Buf (Elt F) ℓ) (ρ : Dev nD → PrngReg)

/-! ## The arrays as the program goes -/

abbrev Arrays (F : FTy → Type) : Type := (c : Dev nD) → (b : Ref sig .tc) → Buf (Elt F) ((c : Thread nD τ).loc b)

/-- At the launch; after the SparseCores' call; after the first region; after the second. -/
def V0 : Arrays F := fun d b => m ((d : Thread nD τ).loc b)
def V1 : Arrays F := fun d => Function.update (V0 m d) main_v0 (sumsOf m d)
def V2 : Arrays F := fun d => Function.update (V1 m d) main_v1 (tcSums (V1 m) d 14)
def V3 : Arrays F := fun d => Function.update (V2 m d) main_v2 (lossAt (V2 m) d)

theorem V2_out (d : Dev nD) : V2 m d main_v1 = tcSums (V1 m) d 14 := Function.update_self _ _ _
theorem V2_ne (d : Dev nD) (b : Ref sig .tc) (h : b ≠ main_v1) : V2 m d b = V1 m d b := Function.update_of_ne h _ _
theorem V3_out (d : Dev nD) : V3 m d main_v2 = lossAt (V2 m) d := Function.update_self _ _ _
theorem V3_ne (d : Dev nD) (b : Ref sig .tc) (h : b ≠ main_v2) : V3 m d b = V2 m d b := Function.update_of_ne h _ _
theorem V1_out (d : Dev nD) : V1 m d main_v0 = sumsOf m d := Function.update_self _ _ _
theorem V1_ne (d : Dev nD) (b : Ref sig .tc) (h : b ≠ main_v0) : V1 m d b = m ((d : Thread nD τ).loc b) := Function.update_of_ne h _ _

theorem V3_arg0 (d : Dev nD) : V3 m d main_arg0 = m (pLoc d) :=
  (V3_ne m d _ (by decide)).trans ((V2_ne m d _ (by decide)).trans (V1_ne m d _ (by decide)))
theorem V3_arg1 (d : Dev nD) : V3 m d main_arg1 = m (yLoc d) :=
  (V3_ne m d _ (by decide)).trans ((V2_ne m d _ (by decide)).trans (V1_ne m d _ (by decide)))
theorem V3_arg2 (d : Dev nD) : V3 m d main_arg2 = m (zLoc d) :=
  (V3_ne m d _ (by decide)).trans ((V2_ne m d _ (by decide)).trans (V1_ne m d _ (by decide)))

/-- The unscoped buffers, listed. -/
theorem unscopedBufs_eq (d : Dev nD) (W : (b : Ref sig .tc) → Buf (Elt F) ((d : Thread nD τ).loc b)) :
    (unscopedBufs d W : sProp 𝕄) = iprop((pLoc d ↦{fullShare} W main_arg0) ∗ (yLoc d ↦{fullShare} W main_arg1) ∗ (zLoc d ↦{fullShare} W main_arg2)
      ∗ (oLoc d ↦{fullShare} W main_v0) ∗ ((d : Thread nD τ).loc main_v1 ↦{fullShare} W main_v1) ∗ (d : Thread nD τ).loc main_v2 ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide), SparseCore.bigSep_insert' (by decide),
    SparseCore.bigSep_insert' (by decide), bigSep_singleton]

/-! ## What the SparseCores' call takes and hands back -/

theorem st0_eq (d : Dev nD) : (bigSep Finset.univ fun c : Fin ((K (F := F)).nCore 0) => (P m).st 0 d c)
    = iprop(insAt m d fullShare ∗ oLoc d ↦{fullShare} m (oLoc d)) := by
  refine (bigSep_cores (F := F) (fun c => iprop(insAt m d (cq c) ∗ oLoc d ↦[coreSet c]{fullShare} m (oLoc d)))).trans ?_
  rw [bigSep_sep' _ (fun c => insAt m d (cq c)), ← ins_cores, ← rows_cores]
theorem dn0_eq (d : Dev nD) : (bigSep Finset.univ fun c : Fin ((K (F := F)).nCore 0) => (P m).dn 0 d c)
    = iprop(insAt m d fullShare ∗ oLoc d ↦{fullShare} sumsOf m d) := by
  refine (bigSep_cores (F := F) (fun c => iprop(insAt m d (cq c) ∗ oLoc d ↦[coreSet c]{fullShare} sumsOf m d))).trans ?_
  rw [bigSep_sep' _ (fun c => insAt m d (cq c)), ← ins_cores, ← rows_cores]

/-! ## A region's step of the whole program -/

/-- The ghost state a region takes. -/
def ghostOf (d : Dev nD) (p : Fin 2) : sProp 𝕄 :=
  iprop(Pipeline.cellsGhost (Pipeline.pin (pcfgs (F := F)) adm) EP p d ∗ Pipeline.toksInit (Pipeline.pin (pcfgs (F := F)) adm) EP p d)

theorem region_step [∀ e, Nonempty (Elt F e)] (W : Arrays F) {p : Fin 2}
    (R : Pipeline.RegionSeg (pcfgs (F := F)) adm (pdats W) (none : HIx 1) defs₀ 𝒱₀ (K (F := F)).L (K (F := F)).lev p) (d : Dev nD) (Φ : PUnit → sProp 𝕄) :
    iprop((iprop(boundary (d : Thread nD τ) ∗ R.post d) -∗ Φ ⟨⟩) ∗ boundary (d : Thread nD τ) ∗ R.pre d ∗ levAts (K (F := F)).L (K (F := F)).lev ∗ ghostOf d p)
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none (Prog.lift (.customCall (Pipeline.entry p) ())) Φ)
  refine BI.Entails.trans (show (_ : sProp 𝕄) ⊢ iprop((iprop(boundary (d : Thread nD τ) ∗ R.post d) -∗ wp frame (wpE (D (F := F)) 𝒱 (SparseCore.T d) none) Set.univ (.ret ⟨⟩) Φ) ∗ boundary (d : Thread nD τ) ∗ R.pre d
    ∗ levAts (K (F := F)).L (K (F := F)).lev ∗ Pipeline.cellsGhost (Pipeline.pin (pcfgs (F := F)) adm) EP p d ∗ Pipeline.toksInit (Pipeline.pin (pcfgs (F := F)) adm) EP p d) from ?_)
    (R.wp (pcfgs (F := F)) adm (pdats W) (none : HIx 1) cellOf_inj EP defs₀ 𝒱₀ _ _ d none (fun u h => nomatch h) .ret Φ)
  unfold ghostOf
  iintro ⟨HΦ, Hb, Hpre, #Hlv, Hg, Ht⟩
  isplitl [HΦ]
  · iintro H
    rw [wp_ret]; imodintro
    iapply HΦ; iexact H
  isplitl [Hb]; · iexact Hb
  isplitl [Hpre]; · iexact Hpre
  isplitr; · iexact Hlv
  isplitl [Hg] <;> iassumption

/-! ## @main on the TensorCore -/

/-- What the call's thread state is beside the core's tallies. -/
def restSt (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem Otc_one (d : Dev nD) : ((K (F := F)).Otc d 1 : CellTallies nD τ sig (HIx 1)) = 0 := by
  unfold SparseCore.Cfg.Otc
  exact Finset.sum_eq_zero fun q _ => if_neg (by have := q.isLt; omega)

theorem tcSt_one (d : Dev nD) : ((K (F := F)).tcSt EH d 1 : sProp 𝕄) ⊣⊢ iprop(Pipeline.owesWithin d (0 : CellTallies nD τ sig (HIx 1)) (waited (F := F) d) ∗ restSt d 1) := by
  constructor
  · unfold SparseCore.Cfg.tcSt restSt Pipeline.owesWithin
    iintro ⟨⟨%W, %hW, HO⟩, Hr⟩
    isplitl [HO]
    · iexists W; isplitr
      · ipureintro; exact fun p hp => hW p hp
      · rw [Otc_one]; iexact HO
    iexact Hr
  · unfold SparseCore.Cfg.tcSt restSt Pipeline.owesWithin
    iintro ⟨⟨%W, %hW, HO⟩, Hr⟩
    isplitl [HO]
    · iexists W; isplitr
      · ipureintro; exact fun p hp => hW hp
      · rw [Otc_one]; iexact HO
    iexact Hr

/-- What @main leaves the claim: the inputs as launched, the result. -/
abbrev FIN (d : Dev nD) : sProp 𝕄 := iprop(insAt m d fullShare ∗ (d : Thread nD τ).loc main_v2 ↦{fullShare} (lossAt (V2 m) d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ (ghostOf d 0 ∗ ghostOf d 1))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hy, Hz, Ho, H1, H2⟩, Hts, -⟩, Hg0, Hg1⟩
  ihave #Hlv := ((K (F := F)).ctx_levAts κ) $$ Hctx
  -- the SparseCores' call
  iapply ((K (F := F)).wp_run (D (F := F)) 𝒱 (EH := EH) (P := P m) κ d 0) $$ [Hst Hp Hy Hz Ho H1 H2 Hb Hts Hg0 Hg1]
  isplitr; · iexact Hctx
  isplitl [Hst]; · iexact Hst
  isplitl [Hp Hy Hz Ho]
  · rw [st0_eq]
    isplitr [Ho]
    · isplitl [Hp]; · iexact Hp
      isplitl [Hy]; · iexact Hy
      iexact Hz
    · iexact Ho
  iintro ⟨Hst, Hdn⟩
  ihave Hdn' := (Entails.of_eq (dn0_eq m d)) $$ Hdn
  icases Hdn' with ⟨⟨Hp, Hy, Hz⟩, Ho⟩
  ihave Hst' := (show (K (F := F)).tcSt EH d ((0 : Fin 1).val + 1) ⊢ _ from (tcSt_one (F := F) d).1) $$ Hst
  icases Hst' with ⟨HO, Hrest⟩
  -- the first region
  iapply (region_step (V1 m) (reg1 (V1 m) (V2 m) (V2_out m) (V2_ne m)) d)
  isplitr [Hb Hp Hy Hz Ho H1 H2 HO Hg0]
  swap
  · isplitl [Hb]; · iexact Hb
    isplitr [Hg0]
    swap
    · isplitr; · iexact Hlv
      iexact Hg0
    iapply (show iprop(unscopedBufs d (V1 m d) ∗ Pipeline.owesWithin d (0 : CellTallies nD τ sig (HIx 1)) (waited (F := F) d)) ⊢ (reg1 (V1 m) (V2 m) (V2_out m) (V2_ne m)).pre d from BI.Entails.refl _)
    rw [unscopedBufs_eq, V1_out, V1_ne m d main_arg0 (by decide), V1_ne m d main_arg1 (by decide), V1_ne m d main_arg2 (by decide),
      V1_ne m d main_v1 (by decide), V1_ne m d main_v2 (by decide)]
    isplitr [HO]
    · isplitl [Hp]; · iexact Hp
      isplitl [Hy]; · iexact Hy
      isplitl [Hz]; · iexact Hz
      isplitl [Ho]; · iexact Ho
      isplitl [H1]; · iexact H1
      iexact H2
    · iexact HO
  iintro ⟨Hb, Harr⟩
  -- the second
  iapply (region_step (V2 m) (reg2 (V2 m) (V3 m) (V3_out m) (V3_ne m)) d)
  isplitr [Hb Harr Hg1]
  swap
  · isplitl [Hb]; · iexact Hb
    isplitl [Harr]
    · iapply (show (reg1 (V1 m) (V2 m) (V2_out m) (V2_ne m)).post d ⊢ (reg2 (V2 m) (V3 m) (V3_out m) (V3_ne m)).pre d from BI.Entails.refl (arraysAt (V2 m) d))
      iexact Harr
    isplitr; · iexact Hlv
    iexact Hg1
  iintro ⟨Hb, Harr⟩
  ihave Harr' := (show (reg2 (V2 m) (V3 m) (V3_out m) (V3_ne m)).post d ⊢ iprop(unscopedBufs d (V3 m d) ∗ Pipeline.owesWithin d (0 : CellTallies nD τ sig (HIx 1)) (waited (F := F) d)) from BI.Entails.refl _) $$ Harr
  icases Harr' with ⟨Hub, HO⟩
  ihave Hub' := (Entails.of_eq (unscopedBufs_eq (F := F) d (V3 m d))) $$ Hub
  rw [V3_arg0, V3_arg1, V3_arg2, V3_out]
  icases Hub' with ⟨Hp, Hy, Hz, Ho, H1, H2⟩
  imodintro
  isplitl [HO Hrest]
  · iapply (tcSt_one (F := F) d).2
    isplitl [HO] <;> iassumption
  isplitr [Hb Hts]
  · isplitr [H2]
    · isplitl [Hp]; · iexact Hp
      isplitl [Hy]; · iexact Hy
      iexact Hz
    · iexact H2
  isplitl [Hb] <;> iassumption

/-! ## The launch -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

/-- The right factor's two halves, owned apart. -/
theorem ownR_pair (a : UP) (b : Counters) :
    (BI.own ((embR : Emb (UP × Counters) (MT nD τ sig (HIx 1) (Elt F) ℕ UU ℕ)) (a, b)) : sProp 𝕄) ⊢ iprop(BI.own (EP a) ∗ emp) := by
  iintro H
  ihave H' := (own_pair_emb embR a b) $$ H
  icases H' with ⟨Ha, -⟩
  isplitl [Ha]
  · iapply (show (BI.own (((Emb.inl : Emb UP (UP × Counters)).trans embR) a) : sProp 𝕄) ⊢ BI.own (EP a) from BI.Entails.refl _)
    iexact Ha
  · iempintro

theorem ghost_eq : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
    = bigSep Finset.univ fun d : Dev nD => iprop(ghostOf (F := F) d 0 ∗ ghostOf d 1) := by
  rw [← bigSep_sep']
  refine bigSep_congr fun c _ => ?_
  rw [← bigSep_sep', show (Finset.univ : Finset (Fin 2)) = {0, 1} by decide, SparseCore.bigSep_insert' (by decide), bigSep_singleton]
  rfl

theorem hu₀ : (ownU (u₀ (F := F)) : sProp 𝕄)
    ⊢ |={Set.univ}=> iprop(BI.own (EH (initOf (K (F := F)).hsCells (K (F := F)).hsToks)) ∗ (bigSep Finset.univ fun d : Dev nD => iprop(ghostOf d 0 ∗ ghostOf d 1))
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (ownR_pair _ _) $$ HP
  icases HP' with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply (Entails.of_eq (ghost_eq (F := F)))
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

def fq (d : Dev nD) (s' : Phys nD τ sig (Elt F)) : Prop :=
  s'.mem.mem (pLoc d) = m (pLoc d) ∧ s'.mem.mem (yLoc d) = m (yLoc d) ∧ s'.mem.mem (zLoc d) = m (zLoc d)
    ∧ s'.mem.mem ((d : Thread nD τ).loc main_v2) = lossAt (V2 m) d

theorem agree (d : Dev nD) (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (pLoc d) = m (pLoc d)⌝ : sProp 𝕄) := by
    iintro ⟨⟨⟨H, -, -⟩, -⟩, HS⟩; iapply (agree d s' _ _); isplitl [H] <;> iassumption
  have h2 : iprop(FIN m d ∗ SI s') ⊢ (⌜s'.mem.mem (yLoc d) = m (yLoc d)⌝ : sProp 𝕄) := by
    iintro ⟨⟨⟨-, H, -⟩, -⟩, HS⟩; iapply (agree d s' _ _); isplitl [H] <;> iassumption
  have h3 : iprop(FIN m d ∗ SI s') ⊢ (⌜s'.mem.mem (zLoc d) = m (zLoc d)⌝ : sProp 𝕄) := by
    iintro ⟨⟨⟨-, -, H⟩, -⟩, HS⟩; iapply (agree d s' _ _); isplitl [H] <;> iassumption
  have h4 : iprop(FIN m d ∗ SI s') ⊢ (⌜s'.mem.mem ((d : Thread nD τ).loc main_v2) = lossAt (V2 m) d⌝ : sProp 𝕄) := by
    iintro ⟨⟨-, H⟩, HS⟩; iapply (agree d s' _ _); isplitl [H] <;> iassumption
  have h34 := (BIClass.and_intro h3 h4).trans pure_and.1
  have h234 := (BIClass.and_intro h2 h34).trans pure_and.1
  exact (BIClass.and_intro h1 h234).trans pure_and.1

def QC : PUnit × MemSt nD τ sig (Elt F) → Prop := fun r =>
  (∀ d : Dev nD, r.2.mem (pLoc d) = m (pLoc d) ∧ r.2.mem (yLoc d) = m (yLoc d) ∧ r.2.mem (zLoc d) = m (zLoc d)
    ∧ r.2.mem ((d : Thread nD τ).loc main_v2) = lossAt (V2 m) d) ∧ r.2.sem = fun _ => 0

/-- The program's run: the inputs kept, the result the loss of the arrays' sums, no semaphore left up. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kFacts v₀
    (fun q hq => match q with | 0 => nomatch hq)
    (fun q _ => match q with | 0 => tileObl m kFacts)
    (fun q _ => match q with | 0 => SparseCore.Cfg.VecSplit.of_plain (vecSplit m))
    m ρ main (fun d => iprop(ghostOf d 0 ∗ ghostOf d 1)) (FIN m) (u₀ (F := F)) (sep_elim_left.trans (hu₀ m)) (hmain m ρ) (fq m) (hfin m) (QC m) (fun _ h hz => ⟨h, hz⟩)

end Cert.Proof.Loss
-- ==== Proof.Prints.lean ====
module
public import proofs.«01_k».proof.Defs
public import proofs.«01_k».proof.Proof.Gen.Kernel
public import proofs.«01_k».proof.Proof.Gen.KernelIdeal
@[expose] public section
noncomputable section
/-! The two prints of the kernel are the same program. -/
namespace Cert.Proof.Prints
open Idealize.ShloMosaic Idealize.SL.Sem
variable {F : FTy → Type} [FloatOps F]

set_option maxHeartbeats 2000000 in
theorem bodies_eq : Cert.Kernel.defs₀ (F := F) = Cert.KernelIdeal.defs₀ (F := F) := by
  funext p ℓ a
  match p, ℓ, a with
  | .scVector c s, ⟨0, _⟩, _ => rfl
  | .scVector c s, ⟨1, _⟩, _ => rfl
  | .scVector c s, ⟨2, _⟩, _ => rfl
  | .tc, ⟨0, _⟩, _ => rfl
  | .tc, ⟨1, _⟩, (t, s) => rfl
  | .tc, ⟨2, _⟩, (t, s) => rfl
  | .scScalar c, ⟨0, _⟩, _ => rfl
  | .scScalar c, ⟨1, _⟩, _ => rfl
  | .scScalar c, ⟨2, _⟩, _ => rfl

theorem defs_eq : Cert.Kernel.defs (F := F) = Cert.KernelIdeal.defs (F := F) :=
  congrArg (fun D => Cert.KernelIdeal.sc.defs (Pipeline.defs Cert.KernelIdeal.pcfgs D)) bodies_eq

end Cert.Proof.Prints
-- ==== Proof.Reference.lean ====
module
public import proofs.«01_k».proof.Defs
public import proofs.«01_k».proof.Proof.Gen.ReferenceIdeal
public import Idealize.ShloMosaic.Lib.Claim
public import Idealize.ShloMosaic.Lib.StableHlo.RunRead
public import Idealize.ShloMosaic.Lib.Quiescent
@[expose] public section
noncomputable section
/-! The reference's run and the loss it computes, as a function of its three arguments. -/
namespace Cert.Proof.Ref
open Idealize.ShloMosaic Idealize.SL.Sem Cert.ReferenceIdeal Cert.ReferenceIdeal.Facts₀
variable {F : FTy → Type} [FloatOps F]

/-- One for each entry at least zero, zero for the others. -/
def posW (y : FVec F S16384 .f32) : FVec F S16384 .f32 :=
  uitofp .f32 (cmpf .oge y (broadcastInDim S16384 ![] bcast_S_S16384 (constant S_ .f32 0x00000000#32)))
/-- The other entries' weights. -/
def negW (w : FVec F S16384 .f32) : FVec F S16384 .f32 :=
  subf (broadcastInDim S16384 ![] bcast_S_S16384 (constant S_ .f32 0x3F800000#32)) w
/-- The sum of the weights. -/
def cnt (w : FVec F S16384 .f32) : FVec F S_ .f32 :=
  Host.reduceAdd w (constant S_ .f32 0x00000000#32) reducesTo_S16384_S_d0 h_S_
/-- The rows weighed and summed, over the weights' sum. -/
def avg (p : FVec F S16384x4096 .f32) (w : FVec F S16384 .f32) : FVec F S4096 .f32 :=
  Host.divf (Host.reduceAdd (mulf p (broadcastInDim S16384x4096 ![0, 1] bcast_S16384x1_S16384x4096_0_1
    (broadcastInDim S16384x1 ![0] bcast_S16384_S16384x1_0 w))) (constant S_ .f32 0x00000000#32) reducesTo_S16384x4096_S4096_d0 h_S_)
    (broadcastInDim S4096 ![] bcast_S_S4096 (cnt w))
/-- The inner product of two averages. -/
def dot (a b : FVec F S4096 .f32) : FVec F S_ .f32 :=
  Host.reduceAdd (mulf a b) (constant S_ .f32 0x00000000#32) reducesTo_S4096_S_d0 h_S_
/-- One minus the cosine of the angle between two averages, times the count over the number of rows. -/
def term (w : FVec F S16384 .f32) (a b : FVec F S4096 .f32) : FVec F S1 .f32 :=
  Host.divf (mulf (broadcastInDim S1 ![] bcast_S_S1 (cnt w))
    (subf (broadcastInDim S1 ![] bcast_S_S1 (constant S_ .f32 0x3F800000#32))
      (shapeCast S1 (Host.divf (dot a b)
        (maximumf (mulf (Host.sqrt (dot a a)) (Host.sqrt (dot b b))) (constant S_ .f32 0x322BCC77#32))) shapeCasts_S_S1)))
    (broadcastInDim S1 ![] bcast_S_S1 (constant S_ .f32 0x46800000#32))
/-- The reference's result. -/
def refLoss (p : FVec F S16384x4096 .f32) (y z : FVec F S16384 .f32) : FVec F S1 .f32 :=
  addf (term (posW y) (avg p (posW y)) (avg p (posW z)))
    (term (negW (posW y)) (avg p (negW (posW y))) (avg p (negW (posW z))))

abbrev at_ (m : (ℓ : Loc nD τ sig) → Buf (Elt F) ℓ) (d : Dev nD) (b : Ref sig .tc) := m ((d.tc : Thread nD τ).loc b)

/-- What the reference's run leaves: its arguments as they were, its result, and no counter raised. -/
def QR (m : (ℓ : Loc nD τ sig) → Buf (Elt F) ℓ) (r : PUnit × MemSt nD τ sig (Elt F)) : Prop :=
  (∀ d : Dev nD, at_ r.2.mem d main_arg0 = at_ m d main_arg0 ∧ at_ r.2.mem d main_arg1 = at_ m d main_arg1 ∧ at_ r.2.mem d main_arg2 = at_ m d main_arg2
    ∧ at_ r.2.mem d main_v76 = refLoss (at_ m d main_arg0) (at_ m d main_arg1) (at_ m d main_arg2)) ∧ r.2.sem = fun _ => 0

set_option maxHeartbeats 4000000 in
set_option maxRecDepth 20000 in
theorem run_main (m : (ℓ : Loc nD τ sig) → Buf (Elt F) ℓ) (ρ : Dev nD → PrngReg) :
    θ_run defs (onTc (τ := τ) main) ⟨m, fun _ => 0, ρ⟩ (QR m) := by
  refine (θ_run _ _ _).mono ?_ (Idealize.ShloMosaic.StableHlo.run_hlo _ _ (by hlo_seq) (by decide) (by decide) (by simp)
      (by intro _ h; (repeat (cases h with | head => rfl | tail _ h => ?_)); exact nomatch h) m ρ)
  intro r hc
  refine ⟨fun d => ⟨?_, ?_, ?_, ?_⟩, sem_eq_zero_of_no_sems (by decide) r.2⟩
  · refine (hc d main_arg0).trans ?_; after_reads_simp
  · refine (hc d main_arg1).trans ?_; after_reads_simp
  · refine (hc d main_arg2).trans ?_; after_reads_simp
  · refine (hc d main_v76).trans ?_
    after_reads_simp
    rfl

end Cert.Proof.Ref
-- ==== Proof.Sums.lean ====
/-
  The column sums over the extended reals: what the tiles and the first region leave, added, are the sums over all the rows.
-/
module
public import proofs.«01_k».proof.Proof.Launch
public import Idealize.ShloMosaic.Lib.IdealHost
public import Idealize.ShloMosaic.Lib.ValueLayout
public import Idealize.ShloMosaic.Lib.Pointwise
@[expose] public section
noncomputable section
namespace Cert.Proof.Loss
open Cert.KernelIdeal Cert.KernelIdeal.Gen
open Idealize.ShloMosaic

/-! ## Weights -/

/-- The weight of a row: one where the number is at least zero. -/
def ind (x : EReal) : EReal := if 0 ≤ x then 1 else 0

theorem zero_word : FloatOps.ofBits (F := Ideal) .f32 0x00000000#32 = (0 : EReal) := Ideal.ofBits_zero_f32
theorem one_word : FloatOps.ofBits (F := Ideal) .f32 0x3F800000#32 = (1 : EReal) := Ideal.ofBits_one_f32

theorem oge_ideal (x : EReal) : FloatOps.cmpf (F := Ideal) (φ := .f32) .oge x (FloatOps.ofBits (F := Ideal) .f32 0x00000000#32) = BitVec.ofBool (decide (0 ≤ x)) := by
  rw [zero_word]; rfl
theorem msk_ideal (x : EReal) : msk (F := Ideal) x = ind x := by
  unfold msk
  show Scalar.select (FloatOps.cmpf (F := Ideal) (φ := .f32) .oge x (FloatOps.ofBits (F := Ideal) .f32 0x00000000#32)) (FloatOps.ofBits (F := Ideal) .f32 0x3F800000#32) (FloatOps.ofBits (F := Ideal) .f32 0x00000000#32) = _
  rw [oge_ideal, zero_word, one_word]
  unfold ind
  by_cases h : 0 ≤ x
  · rw [if_pos h, decide_eq_true h]; rfl
  · rw [if_neg h, decide_eq_false h]; rfl
theorem conv_word (x : EReal) : FloatOps.sitofp (F := Ideal) .f32 (BitVec.setWidth 32 (BitVec.ofBool (decide (0 ≤ x)))) = ind x := by
  unfold ind
  by_cases h : 0 ≤ x
  · rw [if_pos h, decide_eq_true h]
    show (((1 : ℤ) : ℝ) : EReal) = 1
    norm_num
  · rw [if_neg h, decide_eq_false h]
    show (((0 : ℤ) : ℝ) : EReal) = 0
    norm_num
theorem conv_ideal (x : EReal) :
    FloatOps.sitofp (F := Ideal) .f32 ((FloatOps.cmpf (F := Ideal) (φ := .f32) .oge x (FloatOps.ofBits (F := Ideal) .f32 0x00000000#32)).setWidth 32) = ind x := by
  rw [oge_ideal, conv_word]

/-- Row `n`'s weight in sum `j`: all the rows, the rows whose target is at least zero, the rows whose prediction is. -/
def wt (y z : S16384.Idx → EReal) : Fin 3 → ℕ → EReal
  | 0, _ => 1
  | 1, n => ind (y (ValueIdx.ix1 ⟨n % 16384, Nat.mod_lt _ (by decide)⟩))
  | 2, n => ind (z (ValueIdx.ix1 ⟨n % 16384, Nat.mod_lt _ (by decide)⟩))
/-- What row `n` adds to column `c` of sum `j`. -/
def item (p : S16384x4096.Idx → EReal) (y z : S16384.Idx → EReal) (j : Fin 3) (c : Fin 4096) (n : ℕ) : EReal :=
  p (ValueIdx.ix2 ⟨n % 16384, Nat.mod_lt _ (by decide)⟩ c) * wt y z j n

/-! ## The tiles' sums -/

/-- Column `c` of sum `j` in the accumulator. -/
def cell (j : Fin 3) (c : Fin 4096) : S12288.Idx := ValueIdx.ix1 ⟨4096 * j.val + c.val, by have := j.isLt; have := c.isLt; show _ < 12288; omega⟩

theorem rows8_sum (a : EReal) (x : Fin 8 → EReal) : rows8 (F := Ideal) a x = a + ∑ r : Fin 8, x r := by
  rw [Fin.sum_univ_eight]
  show a + x 0 + x 1 + x 2 + x 3 + x 4 + x 5 + x 6 + x 7 = _
  simp only [add_assoc]

theorem col_cell (B : S8x4096.Idx → EReal) (r : Fin 8) (j : Fin 3) (c : Fin 4096) :
    col (F := Ideal) B r (4096 * j.val + c.val) = B (ValueIdx.ix2 r c) := by
  unfold col
  refine congrArg B (congrArg (ValueIdx.ix2 r) (Fin.ext ?_))
  show (4096 * j.val + c.val) % 4096 = c.val
  have := c.isLt
  omega

/-- Row `r`'s weight of a block, in sum `j`. -/
def laneWt (w1 w2 : S16.Idx → EReal) : Fin 3 → Fin 8 → EReal
  | 0, _ => 1
  | 1, r => lane (F := Ideal) w1 r
  | 2, r => lane (F := Ideal) w2 r

theorem accAt_cell (B : S8x4096.Idx → EReal) (w1 w2 : S16.Idx → EReal) (f : S12288.Idx → EReal) (j : Fin 3) (c : Fin 4096) :
    accAt (F := Ideal) B w1 w2 f (cell j c) = f (cell j c) + ∑ r : Fin 8, B (ValueIdx.ix2 r c) * laneWt w1 w2 j r := by
  have hc := c.isLt
  have hk : ((cell j c) 0).val = 4096 * j.val + c.val := rfl
  unfold accAt
  rw [hk]
  match j with
  | 0 =>
    rw [if_pos (by show 4096 * 0 + c.val < 4096; omega), rows8_sum]
    refine congrArg (f (cell 0 c) + ·) (Finset.sum_congr rfl fun r _ => ?_)
    rw [col_cell]
    exact (mul_one _).symm
  | 1 =>
    rw [if_neg (by show ¬ 4096 * 1 + c.val < 4096; omega), if_pos (by show 4096 * 1 + c.val < 8192; omega), rows8_sum]
    refine congrArg (f (cell 1 c) + ·) (Finset.sum_congr rfl fun r _ => ?_)
    rw [col_cell]
    rfl
  | 2 =>
    rw [if_neg (by show ¬ 4096 * 2 + c.val < 4096; omega), if_neg (by show ¬ 4096 * 2 + c.val < 8192; omega), rows8_sum]
    refine congrArg (f (cell 2 c) + ·) (Finset.sum_congr rfl fun r _ => ?_)
    rw [col_cell]
    rfl

theorem wts_ideal (y : S16384.Idx → EReal) (L : grid0.Coords) (n : ℕ) (hn : n < 8) (r : Fin 8) :
    lane (F := Ideal) (lanesAt (wts (F := Ideal) y L) n) r = ind (y (ValueIdx.ix1 ⟨(baseOf L + (8 * n + r.val)) % 16384, Nat.mod_lt _ (by decide)⟩)) := by
  have hr := r.isLt
  have hb := base_lt L 63 (by omega)
  unfold lane lanesAt wts
  have hk : (8 * n + r.val) % 80 = 8 * n + r.val := by omega
  rw [dif_pos (show (8 * n + r.val) % 80 < 64 by omega), msk_ideal]
  refine congrArg (fun i => ind (y (ValueIdx.ix1 i))) (Fin.ext ?_)
  show baseOf L + (8 * n + r.val) % 80 = (baseOf L + (8 * n + r.val)) % 16384
  omega

theorem accAfter_cell (p : S16384x4096.Idx → EReal) (y z : S16384.Idx → EReal) (L : grid0.Coords) (j : Fin 3) (c : Fin 4096) :
    ∀ n, n ≤ 8 → accAfter (F := Ideal) p y z L n (cell j c) = ∑ r ∈ Finset.range (8 * n), item p y z j c (baseOf L + r)
  | 0, _ => by
    show FloatOps.ofBits (F := Ideal) .f32 0x00000000#32 = _
    rw [zero_word]; rfl
  | n + 1, h => by
    show accAt (F := Ideal) (blk (F := Ideal) p (baseOf L + 8 * n)) (lanesAt (F := Ideal) (wts (F := Ideal) y L) n) (lanesAt (F := Ideal) (wts (F := Ideal) z L) n) (accAfter (F := Ideal) p y z L n) (cell j c) = _
    rw [accAt_cell, accAfter_cell p y z L j c n (by omega), Nat.mul_add, Finset.sum_range_add, Finset.sum_range (n := 8 * 1)]
    refine congrArg (_ + ·) (Finset.sum_congr rfl fun r _ => ?_)
    have hp : blk (F := Ideal) p (baseOf L + 8 * n) (ValueIdx.ix2 r c) = p (ValueIdx.ix2 ⟨(baseOf L + (8 * n + r.val)) % 16384, Nat.mod_lt _ (by decide)⟩ c) :=
      congrArg (fun i => p (ValueIdx.ix2 i c)) (Fin.ext (by show (baseOf L + 8 * n + r.val) % 16384 = _; rw [Nat.add_assoc]))
    rw [hp]
    unfold item
    refine congrArg (_ * ·) ?_
    match j with
    | 0 => rfl
    | 1 => exact wts_ideal y L n (by omega) r
    | 2 => exact wts_ideal z L n (by omega) r

theorem baseOf_rowTask (w : ℕ) (h : w < 32) : baseOf (rowTask w) = 14336 + 64 * w := by
  show 128 * (w / 2 % 16) + 64 * (w % 2) + 14336 = _
  omega

/-- Sums of 64 terms each, one after the other. -/
theorem sum_tiles (g : ℕ → EReal) (n : ℕ) : ∑ w ∈ Finset.range n, ∑ r ∈ Finset.range 64, g (64 * w + r) = ∑ r ∈ Finset.range (64 * n), g r := by
  induction n with
  | zero => rfl
  | succ n ih => rw [Finset.sum_range_succ, ih, Nat.mul_add, Finset.sum_range_add]

theorem tiles_cell (p : S16384x4096.Idx → EReal) (y z : S16384.Idx → EReal) (j : Fin 3) (c : Fin 4096) :
    ∑ w : Fin 32, sums (F := Ideal) p y z (ValueIdx.ix2 w ⟨4096 * j.val + c.val, by have := j.isLt; have := c.isLt; omega⟩)
      = ∑ r ∈ Finset.range 2048, item p y z j c (14336 + r) := by
  have h := sum_tiles (fun r => item p y z j c (14336 + r)) 32
  rw [Finset.sum_range (n := 32)] at h
  rw [← show 64 * 32 = 2048 from rfl, ← h]
  refine Finset.sum_congr rfl fun w _ => ?_
  refine (accAfter_cell p y z (rowTask w.val) j c 8 (le_refl _)).trans (Finset.sum_congr rfl fun r _ => ?_)
  rw [baseOf_rowTask _ w.isLt, Nat.add_assoc]

/-! ## The first region's sums -/

/-- Row `k`'s weight of a block of 1024 rows, in sum `j`. -/
def blkWt (y z : S1024.Idx → EReal) : Fin 3 → Fin 1024 → EReal
  | 0, _ => 1
  | 1, k => ind (y (ValueIdx.ix1 k))
  | 2, k => ind (z (ValueIdx.ix1 k))

theorem pay2_cell (P : S1024x4096.Idx → EReal) (y z : S1024.Idx → EReal) (s : S3x4096.Idx → EReal) (j : Fin 3) (c : Fin 4096) :
    k1_pay2 (F := Ideal) P y z s (ValueIdx.ix2 j c) = s (ValueIdx.ix2 j c) + ∑ k : Fin 1024, P (ValueIdx.ix2 k c) * blkWt y z j k := by
  have hP : ∀ k (a : Fin 3), P (ix2 k (ValueIdx.ix2 a c 1)) = P (ValueIdx.ix2 k c) := fun k a =>
    congrArg P (funext fun b => match b with | 0 => rfl | 1 => rfl)
  have hv : ∀ (v : S1024.Idx → EReal) k, v (ix1 k) = v (ValueIdx.ix1 k) := fun v k => congrArg v (funext fun b => match b with | 0 => rfl)
  match j with
  | 0 =>
    pointwise [k1_pay2]
    exact congrArg (_ + ·) (Finset.sum_congr rfl fun k _ => (hP k 0).trans (mul_one _).symm)
  | 1 =>
    pointwise [k1_pay2]
    refine congrArg (_ + ·) (Finset.sum_congr rfl fun k _ => ?_)
    rw [hP k 1, hv y, conv_word, mul_comm]
    rfl
  | 2 =>
    pointwise [k1_pay2]
    refine congrArg (_ + ·) (Finset.sum_congr rfl fun k _ => ?_)
    rw [hP k 2, hv z, conv_word, mul_comm]
    rfl

variable (V : (c : Dev nD) → (b : Ref sig .tc) → Buf (Elt Ideal) ((c.tc : Thread nD τ).loc b))

theorem pBlk_apply (c : Dev nD) (t : Fin cfg1.N) (k : Fin 1024) (x : Fin 4096) :
    pBlk (F := Ideal) V c t (ValueIdx.ix2 k x) = (V c main_arg0 : S16384x4096.Idx → EReal) (ValueIdx.ix2 ⟨(1024 * t.val + k.val) % 16384, Nat.mod_lt _ (by decide)⟩ x) := by
  have ht := coords1 t
  have hN : t.val < 14 := t.isLt
  have hk := k.isLt
  refine congrArg (V c main_arg0) (funext fun a => ?_)
  match a with
  | 0 =>
    refine Fin.ext ?_
    show (BitVec.ofNat 32 (cfg1.grid.coords t 0).val).toNat * 1024 + 1 * k.val = (1024 * t.val + k.val) % 16384
    rw [ht, BitVec.toNat_ofNat]
    omega
  | 1 =>
    refine Fin.ext ?_
    show 0 * 4096 + 1 * x.val = x.val
    omega
theorem yBlk_apply (c : Dev nD) (t : Fin cfg1.N) (k : Fin 1024) :
    yBlk (F := Ideal) V c t (ValueIdx.ix1 k) = (V c main_arg1 : S16384.Idx → EReal) (ValueIdx.ix1 ⟨(1024 * t.val + k.val) % 16384, Nat.mod_lt _ (by decide)⟩) := by
  have ht := coords1 t
  have hN : t.val < 14 := t.isLt
  have hk := k.isLt
  refine congrArg (V c main_arg1) (funext fun a => ?_)
  match a with
  | 0 =>
    refine Fin.ext ?_
    show (BitVec.ofNat 32 (cfg1.grid.coords t 0).val).toNat * 1024 + 1 * k.val = (1024 * t.val + k.val) % 16384
    rw [ht, BitVec.toNat_ofNat]
    omega
theorem zBlk_apply (c : Dev nD) (t : Fin cfg1.N) (k : Fin 1024) :
    zBlk (F := Ideal) V c t (ValueIdx.ix1 k) = (V c main_arg2 : S16384.Idx → EReal) (ValueIdx.ix1 ⟨(1024 * t.val + k.val) % 16384, Nat.mod_lt _ (by decide)⟩) := by
  have ht := coords1 t
  have hN : t.val < 14 := t.isLt
  have hk := k.isLt
  refine congrArg (V c main_arg2) (funext fun a => ?_)
  match a with
  | 0 =>
    refine Fin.ext ?_
    show (BitVec.ofNat 32 (cfg1.grid.coords t 0).val).toNat * 1024 + 1 * k.val = (1024 * t.val + k.val) % 16384
    rw [ht, BitVec.toNat_ofNat]
    omega

theorem tcSums_cell (d : Dev nD) (j : Fin 3) (c : Fin 4096) :
    ∀ n, n ≤ 14 → tcSums (F := Ideal) V d n (ValueIdx.ix2 j c) = ∑ r ∈ Finset.range (1024 * n), item (V d main_arg0) (V d main_arg1) (V d main_arg2) j c r
  | 0, _ => by
    show FloatOps.ofBits (F := Ideal) .f32 0x00000000#32 = _
    rw [zero_word]; rfl
  | n + 1, h => by
    have hn : n < cfg1.N := lt_of_lt_of_eq (show n < 14 by omega) N_1.symm
    show (if h : n < cfg1.N then k1_pay2 (F := Ideal) (pBlk V d ⟨n, h⟩) (yBlk V d ⟨n, h⟩) (zBlk V d ⟨n, h⟩) (tcSums V d n) else tcSums V d n) (ValueIdx.ix2 j c) = _
    rw [dif_pos hn, pay2_cell, tcSums_cell d j c n (by omega), Nat.mul_add, Finset.sum_range_add, Finset.sum_range (n := 1024 * 1)]
    refine congrArg (_ + ·) (Finset.sum_congr rfl fun k _ => ?_)
    rw [pBlk_apply]
    unfold item
    refine congrArg (HMul.hMul (α := EReal) (β := EReal) (γ := EReal) _) ?_
    match j with
    | 0 => rfl
    | 1 => exact congrArg ind (yBlk_apply V d ⟨n, hn⟩ k)
    | 2 => exact congrArg ind (zBlk_apply V d ⟨n, hn⟩ k)

/-! ## The sums over all the rows -/

/-- Row `i`'s weight in sum `j`. -/
def rowWt (y z : S16384.Idx → EReal) : Fin 3 → Fin 16384 → EReal
  | 0, _ => 1
  | 1, i => ind (y (ValueIdx.ix1 i))
  | 2, i => ind (z (ValueIdx.ix1 i))
/-- Column `c` of sum `j` over all the rows. -/
def colSum (p : S16384x4096.Idx → EReal) (y z : S16384.Idx → EReal) (j : Fin 3) (c : Fin 4096) : EReal :=
  ∑ i : Fin 16384, p (ValueIdx.ix2 i c) * rowWt y z j i

theorem item_total (p : S16384x4096.Idx → EReal) (y z : S16384.Idx → EReal) (j : Fin 3) (c : Fin 4096) :
    ∑ r ∈ Finset.range 14336, item p y z j c r + ∑ r ∈ Finset.range 2048, item p y z j c (14336 + r) = colSum p y z j c := by
  rw [← Finset.sum_range_add, Finset.sum_range]
  refine Finset.sum_congr rfl fun i _ => ?_
  have hi : (⟨i.val % 16384, Nat.mod_lt _ (by decide)⟩ : Fin 16384) = i := Fin.ext (Nat.mod_eq_of_lt i.isLt)
  unfold item
  rw [hi]
  refine congrArg (_ * ·) ?_
  match j with
  | 0 => rfl
  | 1 => exact congrArg (fun i => ind (y (ValueIdx.ix1 i))) hi
  | 2 => exact congrArg (fun i => ind (z (ValueIdx.ix1 i))) hi

theorem all_cell (d : Dev nD) (j : Fin 3) (c : Fin 4096) :
    tcSums (F := Ideal) V d 14 (ValueIdx.ix2 j c)
        + ∑ w : Fin 32, sums (F := Ideal) (V d main_arg0) (V d main_arg1) (V d main_arg2) (ValueIdx.ix2 w ⟨4096 * j.val + c.val, by have := j.isLt; have := c.isLt; omega⟩)
      = colSum (V d main_arg0) (V d main_arg1) (V d main_arg2) j c := by
  rw [tcSums_cell V d j c 14 (le_refl _), tiles_cell]
  exact item_total _ _ _ j c
end Cert.Proof.Loss
-- ==== Proof.Equation.lean ====
/-
  The kernel's loss is the reference's, for a table of finite numbers.
-/
module
public import proofs.«01_k».proof.Proof.Sums
public import proofs.«01_k».proof.Proof.Reference
@[expose] public section
noncomputable section
namespace Cert.Proof.Loss
open Cert.KernelIdeal Cert.KernelIdeal.Gen
open Idealize.ShloMosaic

/-! ## Sums of reals -/

theorem coe_total {ι : Type} [Fintype ι] (f : ι → ℝ) : ((∑ i, f i : ℝ) : EReal) = ∑ i, (f i : EReal) := by
  classical
  induction (Finset.univ : Finset ι) using Finset.induction_on with
  | empty => rfl
  | insert a s ha ih => rw [Finset.sum_insert ha, Finset.sum_insert ha, EReal.coe_add, ih]

/-- The whole sum less a weighed one is the sum weighed the other way, for real numbers. -/
theorem diff_total {ι : Type} [Fintype ι] (a w : ι → EReal) (ha : ∀ i, ∃ r : ℝ, a i = r) (hw : ∀ i, ∃ r : ℝ, w i = r) :
    (∑ i, a i * 1) - ∑ i, a i * w i = ∑ i, a i * (1 - w i) := by
  choose f hf using ha
  choose g hg using hw
  have e1 : ∑ i, a i * 1 = ((∑ i, f i : ℝ) : EReal) := by
    rw [coe_total]; exact Finset.sum_congr rfl fun i _ => by rw [hf, mul_one]
  have e2 : ∑ i, a i * w i = ((∑ i, f i * g i : ℝ) : EReal) := by
    rw [coe_total]; exact Finset.sum_congr rfl fun i _ => by rw [hf, hg, EReal.coe_mul]
  have e3 : ∑ i, a i * (1 - w i) = ((∑ i, f i * (1 - g i) : ℝ) : EReal) := by
    rw [coe_total]; exact Finset.sum_congr rfl fun i _ => by rw [hf, hg, EReal.coe_mul, EReal.coe_sub, EReal.coe_one]
  rw [e1, e2, e3, ← EReal.coe_sub, ← Finset.sum_sub_distrib]
  exact congrArg _ (Finset.sum_congr rfl fun i _ => by ring)

theorem ind_real (x : EReal) : ∃ r : ℝ, ind x = r := by
  unfold ind
  by_cases h : 0 ≤ x
  · exact ⟨1, by rw [if_pos h, EReal.coe_one]⟩
  · exact ⟨0, by rw [if_neg h, EReal.coe_zero]⟩

theorem rows_word : Ideal.ofBits .f32 0x46800000#32 = ((16384 : ℝ) : EReal) := by
  simp [Ideal.ofBits, Ideal.ieee]
  rw [← EReal.coe_mul]
  norm_num

/-! ## The two counts -/

/-- How many rows have a number at least zero. -/
def count (y : S16384.Idx → EReal) : EReal := ∑ i : Fin 16384, ind (y (ValueIdx.ix1 i))
/-- How many have not. -/
def rest (y : S16384.Idx → EReal) : EReal := ∑ i : Fin 16384, (1 - ind (y (ValueIdx.ix1 i)))

theorem rows_sub_count (y : S16384.Idx → EReal) : Ideal.ofBits .f32 0x46800000#32 - count y = rest y := by
  have h := diff_total (fun _ : Fin 16384 => (1 : EReal)) (fun i => ind (y (ValueIdx.ix1 i))) (fun _ => ⟨1, EReal.coe_one.symm⟩) (fun i => ind_real _)
  have e : ∑ _i : Fin 16384, (1 : EReal) * 1 = ((16384 : ℝ) : EReal) := by
    have := coe_total (fun _ : Fin 16384 => (1 : ℝ))
    rw [Finset.sum_const, Finset.card_univ, Fintype.card_fin] at this
    simp only [mul_one]
    rw [← EReal.coe_one, ← this]
    norm_num
  rw [e] at h
  simp only [one_mul] at h
  rw [rows_word]
  exact h

/-! ## The cosine term -/

/-- The inner product. -/
def inner (a b : S4096.Idx → EReal) : EReal := ∑ c : Fin 4096, a (ValueIdx.ix1 c) * b (ValueIdx.ix1 c)
/-- One minus the cosine, times `n` over the number of rows. -/
def cosTerm (n : EReal) (a b : S4096.Idx → EReal) : EReal :=
  Ideal.div (n * (1 - Ideal.div (inner a b) (max (Ideal.sqrt (inner a a) * Ideal.sqrt (inner b b)) (Ideal.ofBits .f32 0x322BCC77#32)))) (Ideal.ofBits .f32 0x46800000#32)

theorem row_total (v : S4096.Idx → EReal) :
    extractAt ![0, 0] (shapeCast S1x1 (multiReduction (F := Ideal) (φ := .f32) .add [1] S1 (shapeCast S1x4096 v shapeCasts_S4096_S1x4096) 0x00000000#32 reduces_S1x4096_S1 (.inl rfl) rfl) shapeCasts_S1_S1x1) inpos_S1x1_p0_0
      = ∑ c : Fin 4096, v (ValueIdx.ix1 c) := by
  pointwise
  rfl
theorem col_total (v : S16384.Idx → EReal) :
    extractAt ![0, 0] (shapeCast S1x1 (multiReduction (F := Ideal) (φ := .f32) .add [1] S1 (shapeCast S1x16384 v shapeCasts_S16384_S1x16384) 0x00000000#32 reduces_S1x16384_S1 (.inl rfl) rfl) shapeCasts_S1_S1x1) inpos_S1x1_p0_0
      = ∑ c : Fin 16384, v (ValueIdx.ix1 c) := by
  pointwise
  rfl

theorem pay6_ideal (y : S16384.Idx → EReal) : k2_pay6 (F := Ideal) y = count y :=
  (col_total _).trans (Finset.sum_congr rfl fun i _ => conv_ideal (y (ValueIdx.ix1 i)))
theorem pay7_ideal (y : S16384.Idx → EReal) : k2_pay7 (F := Ideal) y = count y :=
  (col_total _).trans (Finset.sum_congr rfl fun i _ => conv_ideal (y (ValueIdx.ix1 i)))
theorem pay8_ideal (y : S16384.Idx → EReal) : k2_pay8 (F := Ideal) y = rest y := by
  show Ideal.ofBits .f32 0x46800000#32 - k2_pay6 (F := Ideal) y = _
  rw [pay6_ideal, rows_sub_count]
theorem pay13_ideal (y : S16384.Idx → EReal) : k2_pay13 (F := Ideal) y = rest y := by
  show Ideal.ofBits .f32 0x46800000#32 - k2_pay7 (F := Ideal) y = _
  rw [pay7_ideal, rows_sub_count]

theorem pay14_ideal (n : EReal) (a b : S4096.Idx → EReal) : k2_pay14 (F := Ideal) n a b = cosTerm n a b := by
  unfold k2_pay14 cosTerm inner
  dsimp only
  rw [row_total, row_total, row_total, ← Ideal.ofBits_one_f32]
  rfl
theorem pay15_ideal (n : EReal) (a b : S4096.Idx → EReal) (k : EReal) : k2_pay15 (F := Ideal) n a b k = cosTerm n a (fun x => Ideal.div (b x) k) := by
  unfold k2_pay15 cosTerm inner
  dsimp only
  rw [row_total, row_total, row_total, ← Ideal.ofBits_one_f32]
  rfl

/-! ## The column sums of the last region -/

section Columns

variable (o : S32x12288.Idx → EReal) (s : S3x4096.Idx → EReal)

/-- The tiles' sums and the first region's, added. -/
def both (j : Fin 3) (c : Fin 4096) : EReal :=
  s (ValueIdx.ix2 j c) + ∑ w : Fin 32, o (ValueIdx.ix2 w ⟨4096 * j.val + c.val, by have := j.isLt; have := c.isLt; omega⟩)

theorem pay3_ideal (c : Fin 4096) : k2_pay3 (F := Ideal) o (row3 (F := Ideal) s 0) (ValueIdx.ix1 c) = both o s 0 c := by
  pointwise [k2_pay3, k2_pay2]
  exact congrArg₂ (· + ·) (congrArg s (funext fun a => match a with | 0 => rfl | 1 => rfl))
    (Finset.sum_congr rfl fun w _ => congrArg o (funext fun a => match a with | 0 => rfl | 1 => Fin.ext ((by show c.val = 4096 * 0 + c.val; omega))))
theorem pay4_ideal (c : Fin 4096) : k2_pay4 (F := Ideal) o (row3 (F := Ideal) s 1) (ValueIdx.ix1 c) = both o s 1 c := by
  pointwise [k2_pay4, k2_pay2]
  exact congrArg₂ (· + ·) (congrArg s (funext fun a => match a with | 0 => rfl | 1 => rfl))
    (Finset.sum_congr rfl fun w _ => congrArg o (funext fun a => match a with | 0 => rfl | 1 => Fin.ext (rfl)))
theorem pay5_ideal (c : Fin 4096) : k2_pay5 (F := Ideal) o (row3 (F := Ideal) s 2) (ValueIdx.ix1 c) = both o s 2 c := by
  pointwise [k2_pay5, k2_pay2]
  exact congrArg₂ (· + ·) (congrArg s (funext fun a => match a with | 0 => rfl | 1 => rfl))
    (Finset.sum_congr rfl fun w _ => congrArg o (funext fun a => match a with | 0 => rfl | 1 => Fin.ext (rfl)))

theorem pay9_at (y : S16384.Idx → EReal) (r : S1x4096.Idx → EReal) (x : S4096.Idx) :
    k2_pay9 (F := Ideal) o r y x = Ideal.div (k2_pay4 (F := Ideal) o r x) (count y) := by
  rw [← pay6_ideal]; pointwise [k2_pay9]
theorem pay10_at (y : S16384.Idx → EReal) (r r' : S1x4096.Idx → EReal) (x : S4096.Idx) :
    k2_pay10 (F := Ideal) o r r' y x = Ideal.div ((k2_pay3 (F := Ideal) o r x : EReal) - k2_pay4 (F := Ideal) o r' x) (rest y) := by
  rw [← pay8_ideal]; pointwise [k2_pay10]
theorem pay11_at (y : S16384.Idx → EReal) (r : S1x4096.Idx → EReal) (x : S4096.Idx) :
    k2_pay11 (F := Ideal) o r y x = Ideal.div (k2_pay5 (F := Ideal) o r x) (count y) := by
  rw [← pay7_ideal]; pointwise [k2_pay11]
theorem pay12_at (r r' : S1x4096.Idx → EReal) (x : S4096.Idx) :
    k2_pay12 (F := Ideal) o r r' x = (k2_pay3 (F := Ideal) o r x : EReal) - k2_pay5 (F := Ideal) o r' x := by
  unfold k2_pay12; rfl

end Columns

/-! ## The reference, over the extended reals -/

theorem posW_ideal (y : S16384.Idx → EReal) (i : S16384.Idx) : Ref.posW (F := Ideal) y i = ind (y i) := by
  show FloatOps.uitofp (F := Ideal) .f32 (FloatOps.cmpf (F := Ideal) (φ := .f32) .oge (y i) (FloatOps.ofBits (F := Ideal) .f32 0x00000000#32)) = _
  rw [oge_ideal]
  unfold ind
  by_cases h : 0 ≤ y i
  · rw [if_pos h, decide_eq_true h]
    show (((1 : ℕ) : ℝ) : EReal) = 1
    norm_num
  · rw [if_neg h, decide_eq_false h]
    show (((0 : ℕ) : ℝ) : EReal) = 0
    norm_num
theorem negW_ideal (w : S16384.Idx → EReal) (i : S16384.Idx) : Ref.negW (F := Ideal) w i = 1 - w i := by
  show Ideal.ofBits .f32 0x3F800000#32 - w i = _
  rw [Ideal.ofBits_one_f32]

theorem cnt_ideal (w : S16384.Idx → EReal) (x : Cert.ReferenceIdeal.S_.Idx) : Ref.cnt (F := Ideal) w x = ∑ i : Fin 16384, w (ValueIdx.ix1 i) := by
  pointwise [Ref.cnt]
  rfl
theorem dot_ideal (a b : S4096.Idx → EReal) (x : Cert.ReferenceIdeal.S_.Idx) : Ref.dot (F := Ideal) a b x = inner a b := by
  pointwise [Ref.dot]
  rfl
theorem avg_ideal (p : S16384x4096.Idx → EReal) (w : S16384.Idx → EReal) (c : Fin 4096) :
    Ref.avg (F := Ideal) p w (ValueIdx.ix1 c) = Ideal.div (∑ i : Fin 16384, p (ValueIdx.ix2 i c) * w (ValueIdx.ix1 i)) (∑ i : Fin 16384, w (ValueIdx.ix1 i)) := by
  pointwise [Ref.avg, Ref.cnt]
  rfl
theorem term_ideal (w : S16384.Idx → EReal) (a b : S4096.Idx → EReal) (x : S1.Idx) :
    Ref.term (F := Ideal) w a b x = cosTerm (∑ i : Fin 16384, w (ValueIdx.ix1 i)) a b := by
  unfold cosTerm
  rw [← Ideal.ofBits_one_f32]
  pointwise [Ref.term]
  rw [cnt_ideal, dot_ideal, dot_ideal, dot_ideal]

/-! ## The equation -/

section Equation

variable (p : S16384x4096.Idx → EReal) (y z : S16384.Idx → EReal) (hp : ∀ i, ∃ r : ℝ, p i = r)
  (o : S32x12288.Idx → EReal) (s : S3x4096.Idx → EReal) (h : ∀ j c, both o s j c = colSum p y z j c)

theorem col_ix (x : S4096.Idx) : ∃ c : Fin 4096, x = ValueIdx.ix1 c := ⟨x 0, funext fun a => match a with | 0 => rfl⟩

theorem colSum_zero (c : Fin 4096) : colSum p y z 0 c = ∑ i : Fin 16384, p (ValueIdx.ix2 i c) * 1 := by
  unfold colSum rowWt; rfl
theorem colSum_one (c : Fin 4096) : colSum p y z 1 c = ∑ i : Fin 16384, p (ValueIdx.ix2 i c) * ind (y (ValueIdx.ix1 i)) := by
  unfold colSum rowWt; rfl
theorem colSum_two (c : Fin 4096) : colSum p y z 2 c = ∑ i : Fin 16384, p (ValueIdx.ix2 i c) * ind (z (ValueIdx.ix1 i)) := by
  unfold colSum rowWt; rfl

theorem avg_posW (c : Fin 4096) :
    Ref.avg (F := Ideal) p (Ref.posW (F := Ideal) y) (ValueIdx.ix1 c) = Ideal.div (∑ i : Fin 16384, p (ValueIdx.ix2 i c) * ind (y (ValueIdx.ix1 i))) (count y) := by
  rw [avg_ideal]
  simp only [posW_ideal]
  unfold count
  rfl
include hp in
theorem avg_negW (c : Fin 4096) :
    Ref.avg (F := Ideal) p (Ref.negW (F := Ideal) (Ref.posW (F := Ideal) y)) (ValueIdx.ix1 c)
      = Ideal.div ((∑ i : Fin 16384, p (ValueIdx.ix2 i c) * 1) - ∑ i : Fin 16384, p (ValueIdx.ix2 i c) * ind (y (ValueIdx.ix1 i))) (rest y) := by
  rw [avg_ideal, diff_total (fun i : Fin 16384 => p (ValueIdx.ix2 i c)) (fun i => ind (y (ValueIdx.ix1 i))) (fun _ => hp _) (fun _ => ind_real _)]
  simp only [negW_ideal, posW_ideal]
  unfold rest
  rfl

include h in
theorem avg_pos : k2_pay9 (F := Ideal) o (row3 (F := Ideal) s 1) y = Ref.avg (F := Ideal) p (Ref.posW (F := Ideal) y) := by
  funext x
  obtain ⟨c, rfl⟩ := col_ix x
  rw [pay9_at, avg_posW, pay4_ideal, h, colSum_one]
include h in
theorem avg_pos_pred : k2_pay11 (F := Ideal) o (row3 (F := Ideal) s 2) z = Ref.avg (F := Ideal) p (Ref.posW (F := Ideal) z) := by
  funext x
  obtain ⟨c, rfl⟩ := col_ix x
  rw [pay11_at, avg_posW, pay5_ideal, h, colSum_two]
include hp h in
theorem avg_neg : k2_pay10 (F := Ideal) o (row3 (F := Ideal) s 0) (row3 (F := Ideal) s 1) y = Ref.avg (F := Ideal) p (Ref.negW (F := Ideal) (Ref.posW (F := Ideal) y)) := by
  funext x
  obtain ⟨c, rfl⟩ := col_ix x
  rw [pay10_at, avg_negW p y hp, pay3_ideal, pay4_ideal, h, h, colSum_zero, colSum_one]
include hp h in
theorem avg_neg_pred : (fun x => Ideal.div (k2_pay12 (F := Ideal) o (row3 (F := Ideal) s 0) (row3 (F := Ideal) s 2) x) (rest z))
    = Ref.avg (F := Ideal) p (Ref.negW (F := Ideal) (Ref.posW (F := Ideal) z)) := by
  funext x
  obtain ⟨c, rfl⟩ := col_ix x
  rw [pay12_at, avg_negW p z hp, pay3_ideal, pay5_ideal, h, h, colSum_zero, colSum_two]

include hp h in
theorem loss_eq : (fun _ => lossOf (F := Ideal) o s y z) = Ref.refLoss (F := Ideal) p y z := by
  funext x
  have hc : ∑ i : Fin 16384, Ref.posW (F := Ideal) y (ValueIdx.ix1 i) = count y := Finset.sum_congr rfl fun i _ => posW_ideal y _
  have hr : ∑ i : Fin 16384, Ref.negW (F := Ideal) (Ref.posW (F := Ideal) y) (ValueIdx.ix1 i) = rest y :=
    Finset.sum_congr rfl fun i _ => by rw [negW_ideal, posW_ideal]
  show k2_pay14 (F := Ideal) (k2_pay6 (F := Ideal) y) (k2_pay9 (F := Ideal) o (row3 (F := Ideal) s 1) y) (k2_pay11 (F := Ideal) o (row3 (F := Ideal) s 2) z)
      + k2_pay15 (F := Ideal) (k2_pay8 (F := Ideal) y) (k2_pay10 (F := Ideal) o (row3 (F := Ideal) s 0) (row3 (F := Ideal) s 1) y)
        (k2_pay12 (F := Ideal) o (row3 (F := Ideal) s 0) (row3 (F := Ideal) s 2)) (k2_pay13 (F := Ideal) z)
    = Ref.term (F := Ideal) (Ref.posW (F := Ideal) y) (Ref.avg (F := Ideal) p (Ref.posW (F := Ideal) y)) (Ref.avg (F := Ideal) p (Ref.posW (F := Ideal) z)) x
      + Ref.term (F := Ideal) (Ref.negW (F := Ideal) (Ref.posW (F := Ideal) y)) (Ref.avg (F := Ideal) p (Ref.negW (F := Ideal) (Ref.posW (F := Ideal) y)))
        (Ref.avg (F := Ideal) p (Ref.negW (F := Ideal) (Ref.posW (F := Ideal) z))) x
  rw [pay14_ideal, pay15_ideal, pay13_ideal, avg_pos p y z o s h, avg_pos_pred p y z o s h, avg_neg p y z hp o s h, avg_neg_pred p y z hp o s h,
    term_ideal, term_ideal, hc, hr, pay6_ideal, pay8_ideal]

end Equation

/-- The kernel's result over the extended reals is the reference's loss of its arguments. -/
theorem lossAt_eq (m : (ℓ : Loc nD τ sig) → Buf (Elt Ideal) ℓ) (d : Dev nD)
    (hp : ∀ i, ∃ r : ℝ, (m ((d.tc : Thread nD τ).loc main_arg0) : S16384x4096.Idx → EReal) i = (r : EReal)) :
    lossAt (F := Ideal) (V2 m) d = Ref.refLoss (F := Ideal) (m ((d.tc : Thread nD τ).loc main_arg0)) (m ((d.tc : Thread nD τ).loc main_arg1)) (m ((d.tc : Thread nD τ).loc main_arg2)) := by
  have e0 := V1_ne m d main_arg0 (by decide)
  have e1 := V1_ne m d main_arg1 (by decide)
  have e2 := V1_ne m d main_arg2 (by decide)
  unfold lossAt
  rw [V2_out, V2_ne m d main_v0 (by decide), V1_out, V2_ne m d main_arg1 (by decide), V2_ne m d main_arg2 (by decide), e1, e2]
  refine loss_eq _ _ _ hp _ _ fun j c => ?_
  have hall := all_cell (V1 m) d j c
  rw [e0, e1, e2] at hall
  exact hall

end Cert.Proof.Loss
-- ==== Proof.Finite.lean ====
/-
  What the precondition says of the table: every entry is a real number.
-/
module
public import proofs.«01_k».proof.Pre_finite
public import proofs.«01_k».proof.Proof.Gen.Pre_finite
public import Idealize.ShloMosaic.Lib.ReduceAll
public import Idealize.ShloMosaic.Lib.IdealHost
@[expose] public section
noncomputable section
namespace Cert.Proof.Finite
open Idealize.ShloMosaic Cert.Pre_finite

instance : Subsingleton S_.Idx := ⟨fun _ _ => funext fun a => a.elim0⟩

theorem top_word : Ideal.ofBits .f32 0x7F800000#32 = ⊤ := by simp [Ideal.ofBits, Ideal.ieee]

/-- An extended real whose absolute value is below the top is a real number. -/
theorem real_of_lt (x : EReal) (h : max x (-x) < ⊤) : ∃ r : ℝ, x = r := by
  induction x using EReal.rec with
  | bot => exact absurd h (by simp)
  | coe r => exact ⟨r, rfl⟩
  | top => exact absurd h (by simp)

theorem table_real [Facts] (p : S16384x4096.Idx → EReal) (y z : S16384.Idx → EReal) (h : fn (F := Ideal) p y z = fun _ => 1#1) (i : S16384x4096.Idx) :
    ∃ r : ℝ, p i = r := by
  have e := Host.reduce_andi_all _ _ _ _ (fun a => a.elim0) (congrFun h fun a => a.elim0) i
  have e' : BitVec.ofBool (decide (max (p i) (-(p i)) < Ideal.ofBits .f32 0x7F800000#32)) = 1#1 := e
  rw [top_word] at e'
  refine real_of_lt _ ?_
  by_contra hn
  rw [decide_eq_false hn] at e'
  exact absurd e' (by decide)

end Cert.Proof.Finite
-- ==== Proof.lean ====
/- The claims, from the runs of the kernel and of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import Idealize.ShloMosaic.Adequacy
public import proofs.«01_k».proof.Proof.Launch
public import proofs.«01_k».proof.Proof.Prints
public import proofs.«01_k».proof.Proof.Reference
public import proofs.«01_k».proof.Proof.Equation
public import proofs.«01_k».proof.Proof.Finite
public import Idealize.ShloMosaic.Init

@[expose] public section

noncomputable section

namespace Cert.Proof

open Idealize.ShloMosaic Idealize.SL.Sem

instance eltBits (e : EltTy) : Nonempty (Elt Bits e) := ⟨default⟩
instance eltIdeal (e : EltTy) : Nonempty (Elt Ideal e) := ⟨default⟩

set_option maxHeartbeats 4000000 in
/-- The printed program's frame, the two prints being one program. -/
theorem frame_kernel : Cert.quiescent_Kernel := fun m ρ _ => by
  rw [Prints.defs_eq]
  exact (θ_run Cert.KernelIdeal.defs Cert.KernelIdeal.threads ⟨m, fun _ => 0, ρ⟩).mono
    (fun _ (h : Loss.QC (F := Bits) m _) => ⟨fun c => ⟨(h.1 c).1, (h.1 c).2.1, (h.1 c).2.2.1⟩, h.2⟩) (Loss.run_main (F := Bits) m ρ)

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Loss.run_main (F := Ideal) m ρ)

theorem frame_reference : Cert.quiescent_ReferenceIdeal := fun m ρ _ =>
  (θ_run Cert.ReferenceIdeal.defs _ _).mono (fun _ h => ⟨fun c => ⟨(h.1 c).1, (h.1 c).2.1, (h.1 c).2.2.1⟩, h.2⟩) (Ref.run_main (F := Ideal) m ρ)

/-- Over the extended reals the two runs end with one loss, for a table of finite numbers. -/
theorem equal_losses : Cert.algebraic_KernelIdeal_ReferenceIdeal_pre_finite (hPre_finite := Cert.Pre_finite.Gen.facts) := fun m ρ m' ρ' hpre hagree =>
  ⟨fun d => Loss.lossAt (F := Ideal) (Loss.V2 m) d,
    (θ_run Cert.KernelIdeal.defs _ _).mono (fun _ h c => ⟨(h.1 c).2.2.2, (h.1 c).1, (h.1 c).2.1, (h.1 c).2.2.1⟩) (Loss.run_main (F := Ideal) m ρ),
    (θ_run Cert.ReferenceIdeal.defs _ _).mono (fun _ h c => ⟨(h.1 c).2.2.2.trans (by
        have hl := Loss.lossAt_eq m c (Finite.table_real _ _ _ (hpre c))
        obtain ⟨a0, a1, a2⟩ := hagree c
        exact (congr (congr (congrArg (Ref.refLoss (F := Ideal)) a0) a1) a2).trans hl.symm), (h.1 c).1, (h.1 c).2.1, (h.1 c).2.2.1⟩) (Ref.run_main (F := Ideal) m' ρ')⟩

theorem claim : Cert.Claim := ⟨Cert.Kernel.Gen.facts, Cert.KernelIdeal.Gen.facts, Cert.ReferenceIdeal.Gen.facts, Cert.Pre_finite.Gen.facts,
  frame_kernel, frame_ideal, fun m ρ _ => frame_ideal m ρ trivial, frame_reference, fun m ρ _ => frame_reference m ρ trivial, trivial, equal_losses⟩

end Cert.Proof

end
